-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S7x256x2048 : Shape := ⟨3, ![7, 256, 2048]⟩
abbrev S7 : Shape := ⟨1, ![7]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S7x256x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 2 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_15 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v19 : BitVec 32 := Scalar.subi v2 c0_i32_15
  let c8_i32_16 : BitVec 32 := 8#32
  let v20 : BitVec 32 := Scalar.addi v19 c8_i32_16
  let c8_i32_17 : BitVec 32 := 8#32
  let v21 : BitVec 32 := Scalar.remsi v20 c8_i32_17
  let c256_i32 : BitVec 32 := 256#32
  let v26 : BitVec 32 := Scalar.muli v21 c256_i32
  let c0_i32_29 : BitVec 32 := 0#32
  ![v26.toNat, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_25 : BitVec 32 := 1#32
  let v27 : BitVec 32 := Scalar.muli v7 c1_i32_25
  let v28 : BitVec 32 := Scalar.addi c0_i32_26 v27
  v28.toNat
def k0_off2 (d0 : Dev nD) (c0_i32_18 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v22 : BitVec 32 := Scalar.subi v2 c0_i32_18
  let c1_i32_19 : BitVec 32 := 1#32
  let v23 : BitVec 32 := Scalar.subi v22 c1_i32_19
  let c8_i32_20 : BitVec 32 := 8#32
  let v24 : BitVec 32 := Scalar.addi v23 c8_i32_20
  let c8_i32_21 : BitVec 32 := 8#32
  let v25 : BitVec 32 := Scalar.remsi v24 c8_i32_21
  let c256_i32_45 : BitVec 32 := 256#32
  let v48 : BitVec 32 := Scalar.muli v25 c256_i32_45
  let v49 : Index := Scalar.indexCast v48
  let c0_46 : Index := 0#32
  ![v49.toNat, 0]
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_63 : BitVec 32 := 1#32
  let v66 : BitVec 32 := Scalar.muli v7 c1_i32_63
  let v67 : BitVec 32 := Scalar.addi c0_i32_64 v66
  v67.toNat
def k0_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_100 : BitVec 32 := 1#32
  let v105 : BitVec 32 := Scalar.muli v7 c1_i32_100
  let v106 : BitVec 32 := Scalar.addi c0_i32_101 v105
  v106.toNat
def k0_dev6 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_136 : BitVec 32 := 1#32
  let v144 : BitVec 32 := Scalar.muli v7 c1_i32_136
  let v145 : BitVec 32 := Scalar.addi c0_i32_137 v144
  v145.toNat
def k0_dev7 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_172 : BitVec 32 := 1#32
  let v183 : BitVec 32 := Scalar.muli v7 c1_i32_172
  let v184 : BitVec 32 := Scalar.addi c0_i32_173 v183
  v184.toNat
def k0_dev8 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_208 : BitVec 32 := 1#32
  let v222 : BitVec 32 := Scalar.muli v7 c1_i32_208
  let v223 : BitVec 32 := Scalar.addi c0_i32_209 v222
  v223.toNat
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_244 : BitVec 32 := 1#32
  let v261 : BitVec 32 := Scalar.muli v7 c1_i32_244
  let v262 : BitVec 32 := Scalar.addi c0_i32_245 v261
  v262.toNat
def k0_off3 (d0 : Dev nD) (c0_i32_271 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_270 : BitVec 32 := 1#32
  let v292 : BitVec 32 := Scalar.addi v2 c1_i32_270
  let v293 : BitVec 32 := Scalar.subi v292 c0_i32_271
  let c8_i32_272 : BitVec 32 := 8#32
  let v294 : BitVec 32 := Scalar.addi v293 c8_i32_272
  let c8_i32_273 : BitVec 32 := 8#32
  let v295 : BitVec 32 := Scalar.remsi v294 c8_i32_273
  let c256_i32_275 : BitVec 32 := 256#32
  let v297 : BitVec 32 := Scalar.muli v295 c256_i32_275
  let c0_i32_280 : BitVec 32 := 0#32
  ![v297.toNat, 0]
def k0_dev10 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_278 : BitVec 32 := 1#32
  let v298 : BitVec 32 := Scalar.muli v7 c1_i32_278
  let v299 : BitVec 32 := Scalar.addi c0_i32_279 v298
  v299.toNat
def k0_dev11 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_301 : BitVec 32 := 1#32
  let v322 : BitVec 32 := Scalar.muli v7 c1_i32_301
  let v323 : BitVec 32 := Scalar.addi c0_i32_302 v322
  v323.toNat
def k0_dev12 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_324 : BitVec 32 := 1#32
  let v346 : BitVec 32 := Scalar.muli v7 c1_i32_324
  let v347 : BitVec 32 := Scalar.addi c0_i32_325 v346
  v347.toNat
def k0_dev13 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_347 : BitVec 32 := 1#32
  let v370 : BitVec 32 := Scalar.muli v7 c1_i32_347
  let v371 : BitVec 32 := Scalar.addi c0_i32_348 v370
  v371.toNat
def k0_dev14 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_370 : BitVec 32 := 1#32
  let v394 : BitVec 32 := Scalar.muli v7 c1_i32_370
  let v395 : BitVec 32 := Scalar.addi c0_i32_371 v394
  v395.toNat
def k0_dev15 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_393 : BitVec 32 := 1#32
  let v418 : BitVec 32 := Scalar.muli v7 c1_i32_393
  let v419 : BitVec 32 := Scalar.addi c0_i32_394 v418
  v419.toNat
def k0_dev16 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_416 : BitVec 32 := 1#32
  let v442 : BitVec 32 := Scalar.muli v7 c1_i32_416
  let v443 : BitVec 32 := Scalar.addi c0_i32_417 v442
  v443.toNat
def k0_dev17 (d0 : Dev nD) : Nat :=
  let c0_i32_433_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_432_r0 : BitVec 32 := 1#32
  let v461_r0 : BitVec 32 := Scalar.muli v5 c1_i32_432_r0
  let v462_r0 : BitVec 32 := Scalar.addi c0_i32_433_r0 v461_r0
  v462_r0.toNat
def k0_dev18 (d0 : Dev nD) : Nat :=
  let c0_i32_436_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_435_r0 : BitVec 32 := 1#32
  let v463_r0 : BitVec 32 := Scalar.muli v7 c1_i32_435_r0
  let v464_r0 : BitVec 32 := Scalar.addi c0_i32_436_r0 v463_r0
  v464_r0.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Protocol.lean ====
/-
# The ring's protocol

The kernel runs on a ring of eight devices. A device's partial product is cut into eight row blocks
("chunks") of 256 rows. In seven reduce-scatter steps each chunk travels once round the ring and
collects the other devices' parts; in seven all-gather steps the finished chunks travel round the
ring again. Every semaphore is used once, for one round:

* the barrier semaphore of device `c` is raised by one unit by each neighbour; the one after `c`
  hands over its landing slots (`Cell` `bar`);
* the send semaphore of reduce-scatter step `s` is raised by the device's own copy and hands over
  nothing, because the sent chunk is given away for good (`rsS s`);
* the receive semaphore of step `s` is raised by the copy of the device before, and hands over the
  landing slot with the running sum, together with the chunk on every device it has left (`rsR s`);
* the send semaphore of all-gather step `s` hands the sent chunk back (`agS s`);
* the receive semaphore of all-gather step `s` hands over the finished chunk, and the chunk on every
  device it still has to visit (`agR s`);
* the closing barrier's semaphore is raised by one unit by each neighbour and hands over nothing
  (`fin`).

This module has the ring's arithmetic, the cells, the contents that each landing hands over, the
schedule, what each device owes at the start, and the order of the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's own ghost state: rounds of the semaphores, the duties of a round named by a `Bool`. -/
abbrev UB : Type := URounds (GSem nD τ sig) Bool
/-- The ghost state of the whole proof: the staging copies' beside the ring's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `j` places further round the ring. -/
def adv (c : Dev nD) (j : ℕ) : Dev nD := ⟨(c.val + j) % 8, Nat.mod_lt _ (by decide)⟩
/-- The next device. -/
def nxt (c : Dev nD) : Dev nD := ⟨(c.val + 1) % 8, Nat.mod_lt _ (by decide)⟩
/-- The device before. -/
def prv (c : Dev nD) : Dev nD := ⟨(c.val + 7) % 8, Nat.mod_lt _ (by decide)⟩
/-- The chunk that device `c` sends in reduce-scatter step `s`. -/
def ck (c : Dev nD) (s : ℕ) : Dev nD := ⟨(c.val + 8 - s) % 8, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

theorem adv_ck (c : Dev nD) (s : Fin 8) : adv (ck c s.val) s.val = c := by revert c s; decide
theorem adv_ck_nxt (c : Dev nD) (s : Fin 8) : adv (ck (nxt c) s.val) s.val = nxt c := adv_ck (nxt c) s
theorem ck_prv (c : Dev nD) (s : Fin 7) : ck (prv c) s.val = ck c (s.val + 1) := by revert c s; decide
theorem ck_zero (c : Dev nD) : ck c 0 = c := by revert c; decide
theorem ck_seven (c : Dev nD) : ck c 7 = ck (nxt c) 0 := by revert c; decide
theorem ck_injective (c : Dev nD) : ∀ s s' : Fin 8, ck c s.val = ck c s'.val → s = s' := by revert c; decide

/-- The chunks in the order in which device `c` sends them. -/
def ckEquiv (c : Dev nD) : Fin 8 ≃ Dev nD :=
  Equiv.ofBijective (fun s : Fin 8 => ck c s.val)
    ((Fintype.bijective_iff_injective_and_card _).mpr ⟨fun s s' h => ck_injective c s s' h, by simp [nD]⟩)

/-! ## The cells -/

/-- The kernel's scoped semaphores: the closing barrier's, and four families of seven. -/
abbrev Own : Type := Unit ⊕ (Fin 4 × Fin 7)
/-- All of the ring's semaphores: the barrier's first. -/
abbrev Cell : Type := Unit ⊕ Own

abbrev bar : Cell := .inl ()
abbrev fin : Cell := .inr (.inl ())
abbrev rsS (s : Fin 7) : Cell := .inr (.inr (0, s))
abbrev rsR (s : Fin 7) : Cell := .inr (.inr (1, s))
abbrev agS (s : Fin 7) : Cell := .inr (.inr (2, s))
abbrev agR (s : Fin 7) : Cell := .inr (.inr (3, s))

abbrev barS : Sem sig := (SemArray.scalar (sig.barrier 0 rfl) : Sems sig S_).sem
abbrev finS : Sem sig := (cc0_scoped0 : Sems sig S_).sem
/-- The DMA semaphore `s` of family `j`. -/
def dsem (j : Fin 4) (s : Fin 7) : DmaSem sig :=
  ⟨3 + 7 * j.val + s.val, by have := j.isLt; have := s.isLt; show _ < 31; omega⟩

/-- The scoped semaphores, as the launch theorem indexes them; -/
def osem : Own → SemLoc sig
  | .inl _ => .reg finS
  | .inr (j, s) => .dma (dsem j s)
/-- all of them. -/
def csem : Cell → SemLoc sig
  | .inl _ => .reg barS
  | .inr x => osem x

/-- The semaphore `x` of device `c`. -/
def kcell (ck : Dev nD × Cell) : GSem nD τ sig := ((ck.1 : Thread nD τ), csem ck.2)

theorem dsem_injective {j j' : Fin 4} {s s' : Fin 7} (h : dsem j s = dsem j' s') : j = j' ∧ s = s' := by
  have h := congrArg Fin.val h
  have := s.isLt
  have := s'.isLt
  simp only [dsem] at h
  exact ⟨Fin.ext (by omega), Fin.ext (by omega)⟩
theorem csem_injective : Function.Injective csem := by
  rintro (_ | _ | ⟨j, s⟩) (_ | _ | ⟨j', s'⟩) h
  · rfl
  · exact absurd (show SemLoc.reg barS = SemLoc.reg finS from h) (by decide)
  · cases h
  · exact absurd (show SemLoc.reg finS = SemLoc.reg barS from h) (by decide)
  · rfl
  · cases h
  · cases h
  · cases h
  · have h' : dsem j s = dsem j' s' := by injection h
    rw [(dsem_injective h').1, (dsem_injective h').2]
theorem kcell_injective : Function.Injective kcell := by
  rintro ⟨c, x⟩ ⟨c', x'⟩ h
  have h1 : c = c' := congrArg (fun g : GSem nD τ sig => g.1.1) h
  have h2 : csem x = csem x' := congrArg Prod.snd h
  rw [h1, csem_injective h2]

/-! ## The memrefs -/

abbrev aM : Memref sig .tc .vmem S2048x1024 .f32 := Memref.whole cc0_stg0_0
abbrev bM : Memref sig .tc .vmem S1024x2048 .f32 := Memref.whole cc0_stg1_0
abbrev oM : Memref sig .tc .vmem S2048x2048 .f32 := Memref.whole cc0_stg2_0
abbrev rM : Memref sig .tc .vmem S7x256x2048 .f32 := Memref.whole cc0_scratch0

theorem inb_chunk (k : Dev nD) : ∀ a, (![256 * k.val, 0] : Fin 2 → ℕ) a + S256x2048.size a ≤ S2048x2048.size a := by
  revert k; decide
theorem inb_slot (s : Fin 7) : ∀ a, (![s.val, 0, 0] : Fin 3 → ℕ) a + S1x256x2048.size a ≤ S7x256x2048.size a := by
  revert s; decide

/-- Row block `k` of the result. -/
abbrev chunkR (k : Dev nD) : Rect S2048x2048 := Rect.unit (s := S2048x2048) ![256 * k.val, 0] S256x2048.size (inb_chunk k)
/-- Row block `k` of the result buffer. -/
abbrev chunkM (k : Dev nD) : Memref sig .tc .vmem S256x2048 .f32 := oM.slice (chunkR k) (fun _ => rfl)
/-- Landing slot `s`, as a rectangle of the landing buffer -/
abbrev slotR (s : Fin 7) : Rect S7x256x2048 := Rect.unit (s := S7x256x2048) ![s.val, 0, 0] S1x256x2048.size (inb_slot s)
/-- and as a memref. -/
abbrev slotM (s : Fin 7) : Memref sig .tc .vmem S256x2048 .f32 :=
  (rM.slice (slotR s) (fun _ => rfl)).squeeze S256x2048 squeezes_S1x256x2048_S256x2048

/-- What one copy of a chunk credits a semaphore. -/
def N : ℕ := (chunkM 0).view.dmaCredit
theorem N_pos : 0 < N := View.dmaCredit_pos _ (by decide)

/-! ## Contents -/

section Contents
variable (A : Dev nD → Vec F S2048x1024 .f32) (B : Dev nD → Vec F S1024x2048 .f32)

/-- Chunk `k` of device `c`'s own product. -/
def part (c k : Dev nD) : Vec F S256x2048 .f32 := fun j => k0_pay1 (A c) (B c) ((chunkR k).emb j)

/-- The running sum that device `c` holds before its reduce-scatter step `s`, of chunk `ck c s`. -/
def acc : ℕ → Dev nD → Vec F S256x2048 .f32
  | 0, c => part A B c (ck c 0)
  | s + 1, c => addf (part A B c (ck c (s + 1))) (acc s (prv c))

/-- The finished chunk `k`: the sum at the end of its tour, on the device before `k`. -/
def total (k : Dev nD) : Vec F S256x2048 .f32 := acc A B 7 (prv k)

end Contents

/-- Chunk `k` of device `c`'s result buffer, at contents `v`; -/
def chunk (c k : Dev nD) (v : Vec F S256x2048 .f32) : sProp 𝕄 := owns (c : Thread nD τ) (chunkM k) fullShare v
/-- landing slot `s` of device `c`, at contents `v`; -/
def slot (c : Dev nD) (s : Fin 7) (v : Vec F S256x2048 .f32) : sProp 𝕄 := owns (c : Thread nD τ) (slotM s) fullShare v
/-- chunk `k` given away by the devices `i` places past `k`, for `i` in `I`. -/
def grants (I : Finset ℕ) (k : Dev nD) : sProp 𝕄 := bigSep I fun i => iprop(∃ v, chunk (adv k i) k v)
/-- All landing slots of device `c`, at some contents. -/
def slots (c : Dev nD) : sProp 𝕄 := bigSep Finset.univ fun s : Fin 7 => iprop(∃ v, slot c s v)

omit [FloatOps F] in
instance chunk_storable (c k : Dev nD) (v : Vec F S256x2048 .f32) : BI.Storable (upEmb : UEmb _ 𝕄) (chunk c k v) := by
  unfold chunk; infer_instance
omit [FloatOps F] in
instance slot_storable (c : Dev nD) (s : Fin 7) (v : Vec F S256x2048 .f32) : BI.Storable (upEmb : UEmb _ 𝕄) (slot c s v) := by
  unfold slot; infer_instance
omit [FloatOps F] in
instance grants_storable (I : Finset ℕ) (k : Dev nD) : BI.Storable (upEmb : UEmb _ 𝕄) (grants (F := F) I k) := by
  unfold grants; infer_instance
omit [FloatOps F] in
instance slots_storable (c : Dev nD) : BI.Storable (upEmb : UEmb _ 𝕄) (slots (F := F) c) := by
  unfold slots; infer_instance

omit [FloatOps F] in
/-- One more device gives chunk `k` away. -/
theorem grants_succ (s : ℕ) (k : Dev nD) :
    (grants (Finset.range (s + 1)) k : sProp 𝕄) = iprop((∃ v, chunk (adv k s) k v) ∗ grants (Finset.range s) k) := by
  unfold grants; rw [Finset.range_add_one]; exact bigSep_insert Finset.notMem_range_self
omit [FloatOps F] in
/-- One more device takes it back. -/
theorem grants_Ico (s : ℕ) (hs : s < 7) (k : Dev nD) :
    (grants (Finset.Ico s 7) k : sProp 𝕄) = iprop((∃ v, chunk (adv k s) k v) ∗ grants (Finset.Ico (s + 1) 7) k) := by
  unfold grants
  rw [show Finset.Ico s 7 = insert s (Finset.Ico (s + 1) 7) from by
    ext i; simp only [Finset.mem_Ico, Finset.mem_insert]; omega]
  exact bigSep_insert (by simp)

/-! ## The schedule -/

section Sched
variable (A : Dev nD → Vec F S2048x1024 .f32) (B : Dev nD → Vec F S1024x2048 .f32)

/-- The duties of a semaphore's one round: both neighbours' at a barrier, one copy's at a DMA semaphore. -/
def dut : Cell → Finset Bool
  | .inl _ => Finset.univ
  | .inr (.inl _) => Finset.univ
  | .inr (.inr _) => {false}

/-- What one duty adds to the semaphore. -/
def amt : Cell → ℕ
  | .inl _ => 1
  | .inr (.inl _) => 1
  | .inr (.inr _) => N

theorem amt_pos (x : Cell) : 0 < amt x := by
  rcases x with _ | _ | _
  · exact Nat.one_pos
  · exact Nat.one_pos
  · exact N_pos

/-- What each duty of device `c`'s semaphore hands over. -/
def pay (c : Dev nD) : Cell → Bool → sProp 𝕄
  | .inl _, true => slots (nxt c)
  | .inl _, false => iprop(emp)
  | .inr (.inl _), _ => iprop(emp)
  | .inr (.inr (0, _)), _ => iprop(emp)
  | .inr (.inr (1, s)), _ => iprop(slot c s (acc A B s.val (prv c)) ∗ grants (Finset.range (s.val + 1)) (ck (prv c) s.val))
  | .inr (.inr (2, s)), _ => chunk c (ck (nxt c) s.val) (total A B (ck (nxt c) s.val))
  | .inr (.inr (3, s)), _ => iprop(chunk c (ck c s.val) (total A B (ck c s.val)) ∗ grants (Finset.Ico (s.val + 1) 7) (ck c s.val))

instance pay_storable (c : Dev nD) (x : Cell) (d : Bool) : BI.Storable (upEmb : UEmb _ 𝕄) (pay A B c x d) := by
  rcases x with _ | _ | ⟨j, s⟩
  · cases d
    · show BI.Storable _ iprop(emp); infer_instance
    · show BI.Storable _ (slots _); infer_instance
  · show BI.Storable _ iprop(emp); infer_instance
  · fin_cases j
    · show BI.Storable _ iprop(emp); infer_instance
    · show BI.Storable _ iprop(slot _ _ _ ∗ grants _ _); infer_instance
    · show BI.Storable _ (chunk _ _ _); infer_instance
    · show BI.Storable _ iprop(chunk _ _ _ ∗ grants _ _); infer_instance

/-- The schedule: every semaphore of the ring has its duties in round 0, and no other semaphore has any. -/
def ringRd : Rounds.Schedule (GSem nD τ sig) Bool 𝕄 where
  duties g r := if r = 0 then Function.extend kcell (fun cx => dut cx.2) (fun _ => ∅) g else ∅
  unitless _ := False
  amount g _ _ := Function.extend kcell (fun cx => amt cx.2) (fun _ => 1) g
  payload g _ d := Function.extend kcell (fun cx => pay A B cx.1 cx.2 d) (fun _ => iprop(emp)) g
  amount_pos g _ _ _ := by
    by_cases h : ∃ cx, kcell cx = g
    · obtain ⟨cx, rfl⟩ := h; rw [kcell_injective.extend_apply]; exact amt_pos _
    · rw [Function.extend_apply' _ _ _ h]; exact Nat.one_pos

instance ringRd_payload_storable (g : GSem nD τ sig) (r : ℕ) (d : Bool) :
    BI.Storable (upEmb : UEmb _ 𝕄) ((ringRd A B).payload g r d) := by
  show BI.Storable upEmb (Function.extend kcell (fun cx => pay A B cx.1 cx.2 d) (fun _ => iprop(emp)) g)
  by_cases h : ∃ cx, kcell cx = g
  · obtain ⟨cx, rfl⟩ := h; rw [kcell_injective.extend_apply]; infer_instance
  · rw [Function.extend_apply' _ _ _ h]; infer_instance

variable (c : Dev nD) (x : Cell)

theorem duties_cell : (ringRd A B).duties (kcell (c, x)) 0 = dut x := by
  show (if (0 : ℕ) = 0 then Function.extend kcell (fun cx => dut cx.2) (fun _ => ∅) (kcell (c, x)) else ∅) = _
  rw [if_pos rfl, kcell_injective.extend_apply]
theorem duties_later (g : GSem nD τ sig) : ∀ r, 1 ≤ r → (ringRd A B).duties g r = ∅ := fun r hr => if_neg (by omega)
theorem amount_cell (d : Bool) : (ringRd A B).amount (kcell (c, x)) 0 d = amt x := by
  show Function.extend kcell (fun cx => amt cx.2) (fun _ => 1) (kcell (c, x)) = _
  rw [kcell_injective.extend_apply]
theorem payload_cell (d : Bool) : (ringRd A B).payload (kcell (c, x)) 0 d = pay A B c x d := by
  show Function.extend kcell (fun cx => pay A B cx.1 cx.2 d) (fun _ => iprop(emp)) (kcell (c, x)) = _
  rw [kcell_injective.extend_apply]

/-- What the whole round adds up to. -/
theorem expect_cell : (ringRd A B).expect (kcell (c, x)) 0 = (dut x).card * amt x := by
  unfold Schedule.expect Schedule.amountOf
  rw [duties_cell, Finset.sum_congr rfl fun d _ => amount_cell A B c x d, Finset.sum_const, smul_eq_mul]

/-- What the round of a barrier hands over. -/
theorem rest_bar : bigSep ((ringRd A B).duties (kcell (c, bar)) 0 \ ∅) (fun d => (ringRd A B).payload (kcell (c, bar)) 0 d)
    = iprop(emp ∗ slots (nxt c)) := by
  rw [Finset.sdiff_empty, duties_cell, show dut bar = Finset.univ from rfl, bigSep_univ_eq_bigSepL [false, true] (by decide) (by decide),
    bigSepL_cons_cons, bigSepL_singleton, payload_cell, payload_cell]
  rfl
/-- What the round of a DMA semaphore hands over. -/
theorem rest_dma (y : Fin 4 × Fin 7) :
    bigSep ((ringRd A B).duties (kcell (c, .inr (.inr y))) 0 \ ∅) (fun d => (ringRd A B).payload (kcell (c, .inr (.inr y))) 0 d)
    = pay A B c (.inr (.inr y)) false := by
  rw [Finset.sdiff_empty, duties_cell, show dut (.inr (.inr y)) = {false} from rfl, bigSep_singleton, payload_cell]

end Sched

/-! ## What each device owes, and the order of the waits -/

/-- One owed credit on a cell. -/
abbrev due (c : Dev nD) (x : Cell) : CellTallies nD τ sig Unit := tallyAt (kcell (c, x)) () (amt x)

/-- A family's dues to the next device from step `s` on. -/
def dues (f : Fin 7 → Cell) (c : Dev nD) (s : ℕ) : CellTallies nD τ sig Unit :=
  ∑ i : Fin 7, if s ≤ i.val then due (nxt c) (f i) else 0

/-- Owed once the all-gather is over, and before each of its steps, -/
def finO (c : Dev nD) : CellTallies nD τ sig Unit := due (nxt c) fin + due (prv c) fin
def agO (c : Dev nD) (s : ℕ) : CellTallies nD τ sig Unit := finO c + dues agR c s
/-- before each reduce-scatter step, -/
def rsO (c : Dev nD) (s : ℕ) : CellTallies nD τ sig Unit := agO c 0 + dues rsR c s
/-- and at the start. -/
def O₀ (c : Dev nD) : CellTallies nD τ sig Unit := (rsO c 0 + due (nxt c) bar) + due (prv c) bar

theorem dues_step (f : Fin 7 → Cell) (c : Dev nD) (s : Fin 7) : dues f c s.val = dues f c (s.val + 1) + due (nxt c) (f s) := by
  unfold dues
  have h : ∀ i : Fin 7, (if s.val ≤ i.val then due (nxt c) (f i) else 0)
      = (if s.val + 1 ≤ i.val then due (nxt c) (f i) else 0) + (if i = s then due (nxt c) (f i) else 0) := fun i => by
    by_cases h : i = s
    · subst h; rw [if_pos (le_refl _), if_neg (by omega), if_pos rfl, zero_add]
    · rw [if_neg h, add_zero]
      have : i.val ≠ s.val := fun e => h (Fin.ext e)
      by_cases h' : s.val ≤ i.val
      · rw [if_pos h', if_pos (by omega)]
      · rw [if_neg h', if_neg (by omega)]
  rw [Finset.sum_congr rfl fun i _ => h i, Finset.sum_add_distrib, Finset.sum_ite_eq' Finset.univ s, if_pos (Finset.mem_univ _)]

theorem dues_end (f : Fin 7 → Cell) (c : Dev nD) : dues f c 7 = 0 := by
  unfold dues; exact Finset.sum_eq_zero fun i _ => if_neg (by have := i.isLt; omega)

theorem rsO_step (c : Dev nD) (s : Fin 7) : rsO c s.val = rsO c (s.val + 1) + due (nxt c) (rsR s) := by
  unfold rsO; rw [dues_step, add_assoc]
theorem agO_step (c : Dev nD) (s : Fin 7) : agO c s.val = agO c (s.val + 1) + due (nxt c) (agR s) := by
  unfold agO; rw [dues_step, add_assoc]
theorem rsO_end (c : Dev nD) : rsO c 7 = agO c 0 := by unfold rsO; rw [dues_end, add_zero]
theorem agO_end (c : Dev nD) : agO c 7 = finO c := by unfold agO; rw [dues_end, add_zero]

def L (g : GSem nD τ sig) : Finset Unit := if g.1.2 = .tc then {()} else ∅

/-- The order of the waits: a device waits on a cell only while everything it owes sits higher. -/
def lvl : Cell → ℕ
  | .inl _ => 1
  | .inr (.inl _) => 16
  | .inr (.inr (0, _)) => 0
  | .inr (.inr (1, s)) => 2 + s.val
  | .inr (.inr (2, _)) => 0
  | .inr (.inr (3, s)) => 9 + s.val

def lv (g : GSem nD τ sig) (_ : Unit) : ℕ := Function.extend kcell (fun cx => lvl cx.2) (fun _ => 0) g

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) (u : Unit) : lv (kcell (c, x)) u = lvl x := kcell_injective.extend_apply _ _ _

/-- Everything owed in `O` sits above level `b`. -/
def Above (b : ℕ) (O : CellTallies nD τ sig Unit) : Prop := ∀ g u, 0 < O g u → u ∈ L g ∧ b < lv g u

theorem Above.zero (b : ℕ) : Above b 0 := fun g u h => absurd h (Nat.lt_irrefl 0)
theorem Above.add {b : ℕ} {O O' : CellTallies nD τ sig Unit} (h : Above b O) (h' : Above b O') : Above b (O + O') :=
  fun g u hp => (Pipeline.add_pos_cases hp).elim (h g u) (h' g u)
theorem Above.due {b : ℕ} (c : Dev nD) (x : Cell) (h : b < lvl x) : Above b (due c x) := fun g u hp => by
  obtain ⟨rfl, -⟩ := Pipeline.tallyAt_pos hp
  exact ⟨by unfold kcell; rw [L_tc]; exact Finset.mem_singleton_self _, by rw [lv_cell]; exact h⟩
theorem Above.dues {b : ℕ} (f : Fin 7 → Cell) (c : Dev nD) (s : ℕ) (h : ∀ i : Fin 7, s ≤ i.val → b < lvl (f i)) : Above b (dues f c s) :=
  fun g u hp => by
    obtain ⟨i, -, hi⟩ := Pipeline.sum_pos_exists hp
    by_cases hs : s ≤ i.val
    · rw [if_pos hs] at hi; exact Above.due _ _ (h i hs) g u hi
    · rw [if_neg hs] at hi; exact absurd hi (Nat.lt_irrefl 0)

theorem above_finO (c : Dev nD) {b : ℕ} (h : b < 16) : Above b (finO c) := (Above.due _ _ h).add (Above.due _ _ h)
theorem above_agO (c : Dev nD) (s : ℕ) {b : ℕ} (h : b < 9 + s) (h' : s ≤ 7) : Above b (agO c s) :=
  (above_finO c (by omega)).add (Above.dues _ _ _ fun i hi => show b < 9 + i.val by omega)
theorem above_rsO (c : Dev nD) (s : ℕ) {b : ℕ} (h : b < 2 + s) (h' : s ≤ 7) : Above b (rsO c s) :=
  (above_agO c 0 (by omega) (by omega)).add (Above.dues _ _ _ fun i hi => show b < 2 + i.val by omega)
theorem above_O₀ (c : Dev nD) : Above 0 (O₀ c) :=
  ((above_rsO c 0 (by omega) (by omega)).add (Above.due _ _ (by decide))).add (Above.due _ _ (by decide))

omit [FloatOps F] in
/-- A device may wait on its cell `x` while it owes `O`, if all of `O` sits above `x`. -/
theorem mayWait_cell (c : Dev nD) (x : Cell) {O : CellTallies nD τ sig Unit} (h : Above (lvl x) O) :
    (levAts L lv : sProp 𝕄) ⊢ MayWait (c : Thread nD τ) (csem x) () O :=
  Pipeline.mayWait_of_levAts (by rw [L_tc]; exact Finset.mem_singleton_self _) fun g u hg =>
    ⟨(h g u hg).1, by rw [show lv ((c : Thread nD τ), csem x) () = lvl x from lv_cell c x ()]; exact (h g u hg).2⟩

/-- No semaphore of the ring is a staging semaphore. -/
theorem lv_stage (c : Dev nD) (q : DmaSem sig) (hq : q.val < 3) (u : Unit) : lv ((c : Thread nD τ), .dma q) u = 0 := by
  unfold lv
  rw [Function.extend_apply']
  rintro ⟨⟨c', x⟩, h⟩
  have h2 : csem x = .dma q := congrArg Prod.snd h
  rcases x with _ | _ | ⟨j, s⟩
  · cases h2
  · cases h2
  · have h3 : dsem j s = q := by injection h2
    have := congrArg Fin.val h3
    simp only [dsem] at this
    omega

omit [FloatOps F] in
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O :=
  Pipeline.mayWait_of_levAts (by rw [L_tc]; exact Finset.mem_singleton_self _) fun g u hg => by
    rw [lv_stage c q hq]
    rcases hO with rfl | rfl
    · exact above_O₀ c g u hg
    · exact absurd hg (Nat.lt_irrefl 0)

end Cert.KernelIdeal.Ring

end
-- ==== Proof.KernelIdeal.Rules.lean ====
/-
# One rule for each operation of the ring

The loads, the store, the copies and the waits of the kernel, each as a rule over the ring's own
assertions: chunks, landing slots, and the records of the ring's semaphores.
-/
module

public import proofs.«01_k».proof.Proof.KernelIdeal.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no loop variants. -/
abbrev 𝒱₀ : Variants := Variants.none

/-- Device `c` may run the program `p` and then has `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The memrefs that the program names -/

/-- The program names a chunk by its first row. -/
theorem chunkM_of {off : Fin 2 → ℕ} {k : Dev nD} (h : off = ![256 * k.val, 0])
    (hb : ∀ a, off a + S256x2048.size a ≤ S2048x2048.size a) :
    oM.slice (Rect.unit (s := S2048x2048) off S256x2048.size hb) (fun _ => rfl) = chunkM k := by
  subst h; rfl

theorem chunk_amount (k : Dev nD) : (chunkM k).view.dmaCredit = N := rfl
theorem slot_amount (s : Fin 7) : (slotM s).view.dmaCredit = N := rfl

/-! ## Loads and the store -/

section Mem
variable (c : Dev nD) {α : Type}

/-- A load of a chunk gives its contents. -/
theorem wp_load_chunk {off : Fin 2 → ℕ} {k : Dev nD} (h : off = ![256 * k.val, 0])
    {hb : ∀ a, off a + S256x2048.size a ≤ S2048x2048.size a}
    {hl : oM.view.LoadsAt (Rect.unit (s := S2048x2048) off S256x2048.size hb).toLoadRect}
    (v : Vec F S256x2048 .f32) {K : Vec F S256x2048 .f32 → Prog (TpuEff nD τ sig (Elt F) Λ₀ .tc) α}
    (Q : α → sProp 𝕄) :
    iprop(chunk c k v ∗ (chunk c k v -∗ WP c (K v) Q))
      ⊢ WP c (.op (.load oM (Rect.unit (s := S2048x2048) off S256x2048.size hb).toLoadRect hl) K) Q := by
  subst h
  unfold chunk owns
  iintro ⟨⟨%f, %hf, H⟩, Hk⟩
  subst hf
  iapply (wp_load_rect 𝒱₀ (c : Thread nD τ) none Set.univ (m := oM) (r := chunkR k) (S := (chunkM k).view.set) (Finset.Subset.refl _)) $$ H
  iintro H
  iapply Hk
  iexists f
  isplitr; · ipureintro; rfl
  iexact H

/-- A store over a chunk replaces its contents. -/
theorem wp_store_chunk {off : Fin 2 → ℕ} {k : Dev nD} (h : off = ![256 * k.val, 0])
    {hb : ∀ a, off a + S256x2048.size a ≤ S2048x2048.size a} (v w : Vec F S256x2048 .f32)
    {hx : (oM.access (Rect.unit (s := S2048x2048) off S256x2048.size hb)).Stores Finset.univ} {hm}
    {K : PUnit → Prog (TpuEff nD τ sig (Elt F) Λ₀ .tc) α}
    (Q : α → sProp 𝕄) :
    iprop(chunk c k v ∗ (chunk c k w -∗ WP c (K ⟨⟩) Q))
      ⊢ WP c (.op (.store oM (Rect.unit (s := S2048x2048) off S256x2048.size hb) w Finset.univ hx hm) K) Q := by
  subst h
  unfold chunk owns
  iintro ⟨⟨%f, %hf, H⟩, Hk⟩
  iapply (wp_store 𝒱₀ (c : Thread nD τ) none Set.univ (m := oM) (r := chunkR k) (Mk := Finset.univ) (S := (chunkM k).view.set) (Finset.Subset.refl _)) $$ H
  iintro H
  iapply Hk
  iexists _
  isplitr [H]; rotate_left; · iexact H
  ipureintro
  exact View.read_write_univ _ _

/-- A load of a landing slot gives its contents, under one more axis. -/
theorem wp_load_slot {s : Fin 7} {off : Fin 3 → ℕ} (h : off = ![s.val, 0, 0])
    {hb : ∀ a, off a + S1x256x2048.size a ≤ S7x256x2048.size a}
    {hl : rM.view.LoadsAt (Rect.unit (s := S7x256x2048) off S1x256x2048.size hb).toLoadRect}
    (v : Vec F S256x2048 .f32) {K : Vec F S1x256x2048 .f32 → Prog (TpuEff nD τ sig (Elt F) Λ₀ .tc) α}
    (Q : α → sProp 𝕄) :
    iprop(slot c s v ∗ (∀ w, ⌜shapeCast S256x2048 w shapeCasts_S1x256x2048_S256x2048 = v⌝ -∗ slot c s v -∗ WP c (K w) Q))
      ⊢ WP c (.op (.load rM (Rect.unit (s := S7x256x2048) off S1x256x2048.size hb).toLoadRect hl) K) Q := by
  subst h
  unfold slot owns
  iintro ⟨⟨%f, %hf, H⟩, Hk⟩
  subst hf
  iapply (wp_load_rect 𝒱₀ (c : Thread nD τ) none Set.univ (m := rM) (r := slotR s) (S := (slotM s).view.set)
    (by rw [show (slotM s).view.set = (rM.access (slotR s)).set from View.set_reshape ..])) $$ H
  iintro H
  iapply Hk $$ []
  · ipureintro; rfl
  iexists f
  isplitr; · ipureintro; rfl
  iexact H

end Mem

/-! ## The semaphores -/

section Sem
variable (A : Dev nD → Vec F S2048x1024 .f32) (B : Dev nD → Vec F S1024x2048 .f32) (K : Dev nD × Cell → ℕ)

/-- What every device knows: the schedule of every semaphore, that its round is open, and the order of the waits. -/
def records : sProp 𝕄 :=
  iprop(bigSep Finset.univ (fun cx => cellInv ER (ringRd A B) (K cx) (kcell cx))
    ∗ bigSep Finset.univ (fun cx => reached ER (kcell cx) 0) ∗ levAts L lv)

instance records_persistent : BI.Persistent (records A B K) := by unfold records; infer_instance

theorem records_inv (cx : Dev nD × Cell) : records A B K ⊢ cellInv ER (ringRd A B) (K cx) (kcell cx) := by
  unfold records; iintro ⟨H, -, -⟩
  iapply (show bigSep Finset.univ (fun cx => cellInv ER (ringRd A B) (K cx) (kcell cx)) ⊢ cellInv ER (ringRd A B) (K cx) (kcell cx)
    from bigSep_elim (Finset.mem_univ cx)); iexact H
theorem records_reached (cx : Dev nD × Cell) : records A B K ⊢ reached ER (kcell cx) 0 := by
  unfold records; iintro ⟨-, H, -⟩
  iapply (show bigSep Finset.univ (fun cx : Dev nD × Cell => (reached ER (kcell cx) 0 : sProp 𝕄)) ⊢ reached ER (kcell cx) 0
    from bigSep_elim (Finset.mem_univ cx)); iexact H
theorem records_lev : records A B K ⊢ levAts L lv := by
  unfold records; iintro ⟨-, -, H⟩; iexact H

variable (c : Dev nD) {α : Type}

/-- The duty `d` of the semaphore `x` on device `e`, paid by whoever holds this. -/
abbrev tok (e : Dev nD) (x : Cell) (d : Bool) : sProp 𝕄 := dutyTok ER (kcell (e, x)) 0 d
/-- Device `c`'s semaphore `x`, whose round is open and which `c` may wait for. -/
abbrev pos (x : Cell) : sProp 𝕄 := atPos ER (kcell (c, x)) 0 ∅ 0

/-- A wait for the whole round of a semaphore, which then closes. -/
theorem wp_wait_round (x : Cell) {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (csem x) ((dut x).card * amt x) K)
    {O : CellTallies nD τ sig Unit} (hO : Above (lvl x) O)
    {k : PUnit → Prog (TpuEff nD τ sig (Elt F) Λ₀ .tc) α}
    (Q : α → sProp 𝕄) :
    iprop(records A B K ∗ cred (tallyAt (kcell (c, x)) () ((dut x).card * amt x)) ∗ (∃ W, owes (c : Thread nD τ) O W) ∗ pos c x
        ∗ ((bigSep ((ringRd A B).duties (kcell (c, x)) 0 \ ∅) (fun d => (ringRd A B).payload (kcell (c, x)) 0 d)
            ∗ semVal (kcell (c, x)) 0 ∗ (∃ W, owes (c : Thread nD τ) O W)) -∗ WP c (k ⟨⟩) Q))
      ⊢ WP c (.op w k) Q := by
  iintro ⟨#Hr, Hc, ⟨%W, HO⟩, Hat, Hk⟩
  iapply (Rounds.wp_wait_rest_token 𝒱₀ ER (ringRd A B) (c : Thread nD τ) none (κ := K (c, x)) hw (Set.mem_univ _) ()
    (O := O) (W := W) (R := 0) (m := 0) (T := ∅) (by rw [Nat.zero_add]; exact (expect_cell A B c x).symm)) $$ [Hc HO Hat]
  · isplitr; · iapply (records_inv A B K (c, x)); iexact Hr
    isplitl [Hc]; · iexact Hc
    isplitl [HO]; · iexact HO
    isplitr; · iapply (mayWait_cell c x hO); iapply (records_lev A B K); iexact Hr
    iexact Hat
  iintro ⟨HO, Hat, -, Hpay⟩
  imod (Rounds.cell_close ER (ringRd A B) (Set.mem_univ (K (c, x))) (fun h => h) (R := 0 + 1) (duties_later A B (kcell (c, x)))) $$ [Hat] with Hz
  · isplitr; · iapply (records_inv A B K (c, x)); iexact Hr
    iexact Hat
  iapply Hk
  isplitl [Hpay]; · iexact Hpay
  isplitl [Hz]; · iexact Hz
  iexists _; iexact HO

/-- The wait for a copy, on the semaphore that the copy raises. -/
theorem wp_wait_copy (y : Fin 4 × Fin 7) {sem : DmaSem sig} (hs : sem = dsem y.1 y.2)
    {src dst : Memref sig .tc .vmem S256x2048 .f32} (hd : dst.view.dmaCredit = N) {h h'}
    {O : CellTallies nD τ sig Unit} (hO : Above (lvl (.inr (.inr y))) O)
    {k : PUnit → Prog (TpuEff nD τ sig (Elt F) Λ₀ .tc) α}
    (Q : α → sProp 𝕄) :
    iprop(records A B K ∗ cred (due c (.inr (.inr y))) ∗ (∃ W, owes (c : Thread nD τ) O W) ∗ pos c (.inr (.inr y))
        ∗ ((pay A B c (.inr (.inr y)) false ∗ semVal (kcell (c, .inr (.inr y))) 0 ∗ (∃ W, owes (c : Thread nD τ) O W)) -∗ WP c (k ⟨⟩) Q))
      ⊢ WP c (.op (.waitDma2 sem src dst h h') k) Q := by
  subst hs
  have hone : (dut (.inr (.inr y))).card * amt (.inr (.inr y)) = N := Nat.one_mul N
  rw [← rest_dma A B c y]
  unfold due
  rw [show amt (.inr (.inr y)) = (dut (.inr (.inr y))).card * amt (.inr (.inr y)) from hone.symm]
  exact wp_wait_round A B K c (.inr (.inr y))
    (fun K => by rw [hone, ← hd]; exact wpE_waitDma2_eq 𝒱₀ (c : Thread nD τ) none Set.univ K) hO Q

/-- A barrier's signal to device `e`. -/
theorem wp_signal_bar (x : Cell) {sem : Sem sig} (hs : csem x = .reg sem) (hx : amt x = 1) {n e : Dev nD} (hn : n = e) (d : Bool)
    (hd : d ∈ dut x) (O : CellTallies nD τ sig Unit) {O' : CellTallies nD τ sig Unit} (hO : O' = O + due e x)
    {z : ℤ} (hz : z = ((1 : ℕ) : ℤ)) {k : PUnit → Prog (TpuEff nD τ sig (Elt F) Λ₀ .tc) α}
    (Q : α → sProp 𝕄) :
    iprop(records A B K ∗ (∃ W, owes (c : Thread nD τ) O' W) ∗ tok e x d ∗ pay A B e x d
        ∗ ((∃ W, owes (c : Thread nD τ) O W) -∗ WP c (k ⟨⟩) Q))
      ⊢ WP c (.op (.semSignal (n : Thread nD τ) sem z) k) Q := by
  subst hn hz
  have hcell : kcell (n, x) = ((n : Thread nD τ), SemLoc.reg sem) := by unfold kcell; rw [hs]
  unfold due at hO
  rw [hx, hcell] at hO
  rw [← payload_cell]
  have hd' : d ∈ (ringRd A B).duties (kcell (n, x)) 0 := by rw [duties_cell]; exact hd
  have ha' : (ringRd A B).amount (kcell (n, x)) 0 d = 1 := (amount_cell A B n x d).trans hx
  have hi := records_inv A B K (n, x)
  have hr := records_reached A B K (n, x)
  unfold tok
  rw [hcell] at hd' ha' hi hr ⊢
  iintro ⟨#Hr, ⟨%W, HO⟩, Ht, Hp, Hk⟩
  iapply (Rounds.wp_signal 𝒱₀ ER (ringRd A B) (c : Thread nD τ) none (dst := (n : Thread nD τ)) (κ := K (n, x)) (r := 0)
      (d := d) hd' ha' () O hO) $$ [HO Ht Hp]
  · isplitr; · iapply hi; iexact Hr
    isplitl [HO]; · iexact HO
    isplitl [Ht]; · iexact Ht
    isplitl [Hp]; · iexact Hp
    iapply hr; iexact Hr
  iintro HO
  iapply Hk
  iexists _; iexact HO

/-- A reduce-scatter copy: the chunk and the landing slot go to the next device, with the devices the chunk has left. -/
theorem wp_send_rs (s : Fin 7) {src dst : Memref sig .tc .vmem S256x2048 .f32} (hsrc : src = chunkM (ck c s)) (hdst : dst = slotM s)
    {n : Dev nD} (hn : n = nxt c) {sS sR : DmaSem sig} (hS : sS = dsem 0 s) (hR : sR = dsem 1 s) {hsc h h' ht}
    {k : PUnit → Prog (TpuEff nD τ sig (Elt F) Λ₀ .tc) α}
    (Q : α → sProp 𝕄) :
    iprop(records A B K ∗ chunk c (ck c s) (acc A B s c) ∗ (∃ v, slot (nxt c) s v) ∗ grants (Finset.range s) (ck c s)
        ∗ (∃ W, owes (c : Thread nD τ) (rsO c s) W) ∗ tok c (rsS s) false ∗ tok (nxt c) (rsR s) false
        ∗ ((cred (due c (rsS s)) ∗ (∃ W, owes (c : Thread nD τ) (rsO c (s + 1)) W)) -∗ WP c (k ⟨⟩) Q))
      ⊢ WP c (.op (.enqueueDma src (.remote (Dev.tc n : Thread nD τ) dst (.dma sS) hsc) (.dma sR) h h' ht) k) Q := by
  subst hsrc hdst hn hS hR
  unfold chunk slot owns
  iintro ⟨#Hr, ⟨%f, %hf, Hs⟩, ⟨%v, %g, %hg, Hd⟩, Hg, ⟨%W, HO⟩, Ht, Ht', Hk⟩
  iapply (Rounds.wp_send_landing_pointsTo_with 𝒱₀ ER (ringRd A B) (c : Thread nD τ) none (κ₁ := K (c, rsS s)) (κ₂ := K (nxt c, rsR s))
    (r₁ := 0) (r₂ := 0) (d₁ := false) (d₂ := false) (fs := f) (fd := g) (F := grants (Finset.range s) (ck c s))
    (show false ∈ (ringRd A B).duties (kcell (c, rsS s)) 0 by rw [duties_cell]; exact Finset.mem_singleton_self _)
    (show false ∈ (ringRd A B).duties (kcell (nxt c, rsR s)) 0 by rw [duties_cell]; exact Finset.mem_singleton_self _)
    () () N (slot_amount s) (amount_cell A B c (rsS s) false) (amount_cell A B (nxt c) (rsR s) false) (rsO c (s + 1)) (rsO_step c s) (W := W)
    (show _ ⊢ (ringRd A B).payload (kcell (c, rsS s)) 0 false by rw [payload_cell]; exact BI.Entails.refl _)
    (show _ ⊢ (ringRd A B).payload (kcell (nxt c, rsR s)) 0 false by
      rw [payload_cell]
      show _ ⊢ iprop(slot (nxt c) s (acc A B s.val (prv (nxt c))) ∗ grants (Finset.range (s.val + 1)) (ck (prv (nxt c)) s.val))
      rw [prv_nxt, grants_succ, adv_ck c ⟨s.val, by omega⟩]
      iintro ⟨⟨Hd, Hg⟩, Hs⟩
      isplitl [Hd]
      · unfold slot owns; iexists _
        isplitr [Hd]; rotate_left; · iexact Hd
        ipureintro; rw [← hf]; exact View.read_write_univ _ _
      isplitl [Hs]
      · iexists (acc A B s c); unfold chunk owns; iexists f
        isplitr; · ipureintro; exact hf
        iexact Hs
      iexact Hg)) $$ [Hs Hd Hg HO Ht Ht']
  · isplitr; · iapply (records_inv A B K (c, rsS s)); iexact Hr
    isplitr; · iapply (records_inv A B K (nxt c, rsR s)); iexact Hr
    isplitl [Hs]; · iexact Hs
    isplitl [Hd Hg]
    · isplitl [Hd]; · iexact Hd
      iexact Hg
    isplitl [HO]; · iexact HO
    isplitl [Ht]; · iexact Ht
    isplitr; · iapply (records_reached A B K (c, rsS s)); iexact Hr
    isplitl [Ht']; · iexact Ht'
    iapply (records_reached A B K (nxt c, rsR s)); iexact Hr
  iintro ⟨Hc, HO⟩
  iapply Hk
  isplitl [Hc]; · iexact Hc
  iexists _; iexact HO

/-- An all-gather copy: the finished chunk overwrites the next device's, and comes back to the sender as well. -/
theorem wp_send_ag (s : Fin 7) {src dst : Memref sig .tc .vmem S256x2048 .f32} (hsrc : src = chunkM (ck (nxt c) s)) (hdst : dst = chunkM (ck (nxt c) s))
    {n : Dev nD} (hn : n = nxt c) {sS sR : DmaSem sig} (hS : sS = dsem 2 s) (hR : sR = dsem 3 s) {hsc h h' ht}
    {k : PUnit → Prog (TpuEff nD τ sig (Elt F) Λ₀ .tc) α}
    (Q : α → sProp 𝕄) :
    iprop(records A B K ∗ chunk c (ck (nxt c) s) (total A B (ck (nxt c) s)) ∗ grants (Finset.Ico s 7) (ck (nxt c) s)
        ∗ (∃ W, owes (c : Thread nD τ) (agO c s) W) ∗ tok c (agS s) false ∗ tok (nxt c) (agR s) false
        ∗ ((cred (due c (agS s)) ∗ (∃ W, owes (c : Thread nD τ) (agO c (s + 1)) W)) -∗ WP c (k ⟨⟩) Q))
      ⊢ WP c (.op (.enqueueDma src (.remote (Dev.tc n : Thread nD τ) dst (.dma sS) hsc) (.dma sR) h h' ht) k) Q := by
  subst hsrc hdst hn hS hR
  rw [grants_Ico s.val s.isLt, show adv (ck (nxt c) s.val) s.val = nxt c from adv_ck_nxt c ⟨s.val, by omega⟩]
  unfold chunk owns
  iintro ⟨#Hr, ⟨%f, %hf, Hs⟩, ⟨⟨%v, %g, %hg, Hd⟩, Hg⟩, ⟨%W, HO⟩, Ht, Ht', Hk⟩
  iapply (Rounds.wp_send_pointsTo_with 𝒱₀ ER (ringRd A B) (c : Thread nD τ) none (c' := (nxt c : Thread nD τ))
    (src := chunkM (ck (nxt c) s)) (dst := chunkM (ck (nxt c) s)) (κ₁ := K (c, agS s)) (κ₂ := K (nxt c, agR s))
    (r₁ := 0) (r₂ := 0) (d₁ := false) (d₂ := false) (fs := f) (fd := g) (F := grants (Finset.Ico (s + 1) 7) (ck (nxt c) s))
    (show false ∈ (ringRd A B).duties (kcell (c, agS s)) 0 by rw [duties_cell]; exact Finset.mem_singleton_self _)
    (show false ∈ (ringRd A B).duties (kcell (nxt c, agR s)) 0 by rw [duties_cell]; exact Finset.mem_singleton_self _)
    () () N (chunk_amount _) (amount_cell A B c (agS s) false) (amount_cell A B (nxt c) (agR s) false) (agO c (s + 1)) (agO_step c s) (W := W)
    (show _ ⊢ (ringRd A B).payload (kcell (c, agS s)) 0 false by
      rw [payload_cell]
      show _ ⊢ chunk c (ck (nxt c) s.val) (total A B (ck (nxt c) s.val))
      unfold chunk owns
      iintro Hs; iexists f
      isplitr; · ipureintro; exact hf
      iexact Hs)
    (show _ ⊢ (ringRd A B).payload (kcell (nxt c, agR s)) 0 false by
      rw [payload_cell]
      show _ ⊢ iprop(chunk (nxt c) (ck (nxt c) s.val) (total A B (ck (nxt c) s.val)) ∗ grants (Finset.Ico (s.val + 1) 7) (ck (nxt c) s.val))
      iintro ⟨Hd, Hg⟩
      isplitl [Hd]
      · unfold chunk owns; iexists _
        isplitr [Hd]; rotate_left; · iexact Hd
        ipureintro; rw [← hf]; exact View.read_write_univ _ _
      iexact Hg)) $$ [Hs Hd Hg HO Ht Ht']
  · isplitr; · iapply (records_inv A B K (c, agS s)); iexact Hr
    isplitr; · iapply (records_inv A B K (nxt c, agR s)); iexact Hr
    isplitl [Hs]; · iexact Hs
    isplitl [Hd Hg]
    · isplitl [Hd]; · iexact Hd
      iexact Hg
    isplitl [HO]; · iexact HO
    isplitl [Ht]; · iexact Ht
    isplitr; · iapply (records_reached A B K (c, agS s)); iexact Hr
    isplitl [Ht']; · iexact Ht'
    iapply (records_reached A B K (nxt c, agR s)); iexact Hr
  iintro ⟨Hc, HO⟩
  iapply Hk
  isplitl [Hc]; · iexact Hc
  iexists _; iexact HO

end Sem

end Cert.KernelIdeal.Ring
-- ==== Proof.KernelIdeal.Steps.lean ====
/-
# One step of the ring

A phase of seven steps holds, for every step still to come, what that step needs, and for every
step that is over, what it has left. One step of the reduce-scatter, and one of the all-gather,
takes the phase one further.
-/
module

public import proofs.«01_k».proof.Proof.KernelIdeal.Rules

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Phases -/

/-- Before step `s`: what the steps from `s` on need, and what the earlier ones have left. -/
def phase (P D : Fin 7 → sProp 𝕄) (s : ℕ) : sProp 𝕄 := bigSep Finset.univ fun i : Fin 7 => if i.val < s then D i else P i

omit [FloatOps F] in
theorem phase_zero (P D : Fin 7 → sProp 𝕄) : phase P D 0 = bigSep Finset.univ P :=
  bigSep_congr fun i _ => if_neg (Nat.not_lt_zero _)
omit [FloatOps F] in
theorem phase_seven (P D : Fin 7 → sProp 𝕄) : phase P D 7 = bigSep Finset.univ D :=
  bigSep_congr fun i _ => if_pos i.isLt

omit [FloatOps F] in
/-- Step `s` takes what it needs out of the phase, and puts in what it leaves. -/
theorem phase_step (P D : Fin 7 → sProp 𝕄) (s : Fin 7) : phase P D s.val ⊢ iprop(P s ∗ (D s -∗ phase P D (s.val + 1))) := by
  unfold phase
  rw [bigSep_univ_at _ s, bigSep_univ_at _ s, if_neg (lt_irrefl _), if_pos (Nat.lt_succ_self _),
    bigSep_congr (s := Finset.univ.erase s) (Ψ := fun i : Fin 7 => if i.val < s.val + 1 then D i else P i) fun i hi => by
      have hne : i.val ≠ s.val := fun h => Finset.ne_of_mem_erase hi (Fin.ext h)
      by_cases h : i.val < s.val
      · rw [if_pos h, if_pos (by omega)]
      · rw [if_neg h, if_neg (by omega)]]
  iintro ⟨HP, Hrest⟩
  isplitl [HP]; · iexact HP
  iintro HD
  isplitl [HD]; · iexact HD
  iexact Hrest

section Steps
variable (A : Dev nD → Vec F S2048x1024 .f32) (B : Dev nD → Vec F S1024x2048 .f32) (K : Dev nD × Cell → ℕ)

/-! ## The reduce-scatter -/

/-- What reduce-scatter step `i` of device `c` needs: the duties of its copy, its two semaphores, the credit of the
    landing, the next device's slot, and the device's own part of the chunk that it adds to; -/
def rsPend (c : Dev nD) (i : Fin 7) : sProp 𝕄 :=
  iprop(tok c (rsS i) false ∗ tok (nxt c) (rsR i) false ∗ pos c (rsS i) ∗ pos c (rsR i) ∗ cred (due c (rsR i))
    ∗ (∃ v, slot (nxt c) i v) ∗ chunk c (ck c (i.val + 1)) (part A B c (ck c (i.val + 1))))
/-- and what it leaves: its semaphores at zero and its own slot. -/
def rsDone (c : Dev nD) (i : Fin 7) : sProp 𝕄 :=
  iprop(semVal (kcell (c, rsS i)) 0 ∗ semVal (kcell (c, rsR i)) 0 ∗ ∃ v, slot c i v)

/-- Device `c` before its reduce-scatter step `s`: the running sum of the chunk it is about to send, and that chunk on
    every device that it has left. -/
def rsSt (c : Dev nD) (s : ℕ) : sProp 𝕄 :=
  iprop(chunk c (ck c s) (acc A B s c) ∗ grants (Finset.range s) (ck c s) ∗ (∃ W, owes (c : Thread nD τ) (rsO c s) W)
    ∗ phase (rsPend A B c) (rsDone c) s)

variable (c : Dev nD) {α : Type}

/-- One step of the reduce-scatter: send the running sum, wait for both ends, and add what has landed to the next chunk. -/
theorem rs_step (s : Fin 7)
    {src srcW srcW' dst dstW dstW' : Memref sig .tc .vmem S256x2048 .f32} (hsrc : src = chunkM (ck c s))
    (hdst : dst = slotM s) (hsW : srcW.view.dmaCredit = N) (hdW : dstW.view.dmaCredit = N)
    {n : Dev nD} (hn : n = nxt c) {sS sS' sR sR' : DmaSem sig} (hS : sS = dsem 0 s) (hS' : sS' = dsem 0 s) (hR : sR = dsem 1 s) (hR' : sR' = dsem 1 s)
    {hsc h h' ht h₁ h₂ h₃ h₄}
    {off : Fin 2 → ℕ} (hoff : off = ![256 * (ck c (s + 1)).val, 0])
    {hb hb' hb'' : ∀ a, off a + S256x2048.size a ≤ S2048x2048.size a}
    {soff : Fin 3 → ℕ} (hsoff : soff = ![s.val, 0, 0]) {hsb : ∀ a, soff a + S1x256x2048.size a ≤ S7x256x2048.size a}
    {hl hl' hl'' hx hm}
    {P : Vec F S256x2048 .f32 → Vec F S1x256x2048 .f32 → Vec F S256x2048 .f32}
    (hP : ∀ v w, P v w = addf v (shapeCast S256x2048 w shapeCasts_S1x256x2048_S256x2048))
    {k : PUnit → Prog (TpuEff nD τ sig (Elt F) Λ₀ .tc) α} (Q : α → sProp 𝕄) :
    iprop(records A B K ∗ rsSt A B c s ∗ (rsSt A B c (s + 1) -∗ WP c (k ⟨⟩) Q))
      ⊢ WP c (.op (.enqueueDma src (.remote (Dev.tc n : Thread nD τ) dst (.dma sS) hsc) (.dma sR) h h' ht) fun _ =>
          .op (.waitDma2 sS' dstW' srcW h₁ h₂) fun _ =>
          .op (.waitDma2 sR' srcW' dstW h₃ h₄) fun _ =>
          .op (.load oM (Rect.unit (s := S2048x2048) off S256x2048.size hb).toLoadRect hl) fun v =>
          .op (.load rM (Rect.unit (s := S7x256x2048) soff S1x256x2048.size hsb).toLoadRect hl') fun w =>
          .op (.load oM (Rect.unit (s := S2048x2048) off S256x2048.size hb').toLoadRect hl'') fun _ =>
          .op (.store oM (Rect.unit (s := S2048x2048) off S256x2048.size hb'') (P v w) Finset.univ hx hm) k) Q := by
  have hk := s.isLt
  unfold rsSt
  iintro ⟨#Hr, ⟨Hc, Hg, HO, Hph⟩, Hk⟩
  ihave Hph' := (phase_step (rsPend A B c) (rsDone c) s) $$ Hph
  icases Hph' with ⟨Hp, Hph⟩
  unfold rsPend
  icases Hp with ⟨HtS, HtR, HpS, HpR, HcR, Hslot, Hown⟩
  iapply (wp_send_rs A B K c s hsrc hdst hn hS hR)
  isplitr; · iexact Hr
  isplitl [Hc]; · iexact Hc
  isplitl [Hslot]; · iexact Hslot
  isplitl [Hg]; · iexact Hg
  isplitl [HO]; · iexact HO
  isplitl [HtS]; · iexact HtS
  isplitl [HtR]; · iexact HtR
  iintro ⟨HcS, HO⟩
  iapply (wp_wait_copy A B K c (0, s) hS' hsW (O := rsO c (s + 1)) (above_rsO c _ (show 0 < _ by omega) (by omega)))
  isplitr; · iexact Hr
  isplitl [HcS]; · iexact HcS
  isplitl [HO]; · iexact HO
  isplitl [HpS]; · iexact HpS
  iintro ⟨-, HzS, HO⟩
  iapply (wp_wait_copy A B K c (1, s) hR' hdW (O := rsO c (s + 1)) (above_rsO c _ (show 2 + s.val < _ by omega) (by omega)))
  isplitr; · iexact Hr
  isplitl [HcR]; · iexact HcR
  isplitl [HO]; · iexact HO
  isplitl [HpR]; · iexact HpR
  iintro ⟨Hpay, HzR, HO⟩
  ihave Hpay := (show pay A B c (rsR s) false ⊢ iprop(slot c s (acc A B s (prv c)) ∗ grants (Finset.range (s + 1)) (ck c (s + 1))) from
    (Entails.of_eq (by show iprop(slot c s (acc A B s (prv c)) ∗ grants (Finset.range (s + 1)) (ck (prv c) s)) = _; rw [ck_prv]))) $$ Hpay
  icases Hpay with ⟨Hsl, Hg⟩
  iapply (wp_load_chunk c hoff (part A B c (ck c (s + 1))))
  isplitl [Hown]; · iexact Hown
  iintro Hown
  iapply (wp_load_slot c hsoff (acc A B s (prv c)))
  isplitl [Hsl]; · iexact Hsl
  iintro %w %hw Hsl
  iapply (wp_load_chunk c hoff (part A B c (ck c (s + 1))))
  isplitl [Hown]; · iexact Hown
  iintro Hown
  iapply (wp_store_chunk c hoff (part A B c (ck c (s + 1))) (P (part A B c (ck c (s + 1))) w))
  isplitl [Hown]; · iexact Hown
  iintro Hown
  rw [hP, hw]
  iapply Hk
  isplitl [Hown]; · iexact Hown
  isplitl [Hg]; · iexact Hg
  isplitl [HO]; · iexact HO
  iapply Hph
  unfold rsDone
  isplitl [HzS]; · iexact HzS
  isplitl [HzR]; · iexact HzR
  iexists _; iexact Hsl

/-! ## The all-gather -/

/-- What all-gather step `i` of device `c` needs: the duties of its copy, its two semaphores and the credit of the landing; -/
def agPend (c : Dev nD) (i : Fin 7) : sProp 𝕄 :=
  iprop(tok c (agS i) false ∗ tok (nxt c) (agR i) false ∗ pos c (agS i) ∗ pos c (agR i) ∗ cred (due c (agR i)))
/-- and what it leaves: its semaphores at zero and the finished chunk that it has sent on. -/
def agDone (c : Dev nD) (i : Fin 7) : sProp 𝕄 :=
  iprop(semVal (kcell (c, agS i)) 0 ∗ semVal (kcell (c, agR i)) 0
    ∗ chunk c (ck (nxt c) i) (total A B (ck (nxt c) i)))

/-- Device `c` before its all-gather step `s`: the finished chunk that it is about to send, and that chunk on every device
    that it still has to visit. -/
def agSt (c : Dev nD) (s : ℕ) : sProp 𝕄 :=
  iprop(chunk c (ck (nxt c) s) (total A B (ck (nxt c) s)) ∗ grants (Finset.Ico s 7) (ck (nxt c) s)
    ∗ (∃ W, owes (c : Thread nD τ) (agO c s) W) ∗ phase (agPend c) (agDone A B c) s)

/-- One step of the all-gather: send the finished chunk and wait for both ends. -/
theorem ag_step (s : Fin 7)
    {src srcW srcW' dst dstW dstW' : Memref sig .tc .vmem S256x2048 .f32} (hsrc : src = chunkM (ck (nxt c) s))
    (hdst : dst = chunkM (ck (nxt c) s)) (hsW : srcW.view.dmaCredit = N) (hdW : dstW.view.dmaCredit = N)
    {n : Dev nD} (hn : n = nxt c) {sS sS' sR sR' : DmaSem sig} (hS : sS = dsem 2 s) (hS' : sS' = dsem 2 s) (hR : sR = dsem 3 s) (hR' : sR' = dsem 3 s)
    {hsc h h' ht h₁ h₂ h₃ h₄}
    {k : PUnit → Prog (TpuEff nD τ sig (Elt F) Λ₀ .tc) α} (Q : α → sProp 𝕄) :
    iprop(records A B K ∗ agSt A B c s ∗ (agSt A B c (s + 1) -∗ WP c (k ⟨⟩) Q))
      ⊢ WP c (.op (.enqueueDma src (.remote (Dev.tc n : Thread nD τ) dst (.dma sS) hsc) (.dma sR) h h' ht) fun _ =>
          .op (.waitDma2 sS' dstW' srcW h₁ h₂) fun _ =>
          .op (.waitDma2 sR' srcW' dstW h₃ h₄) k) Q := by
  have hk := s.isLt
  unfold agSt
  iintro ⟨#Hr, ⟨Hc, Hg, HO, Hph⟩, Hk⟩
  ihave Hph' := (phase_step (agPend c) (agDone A B c) s) $$ Hph
  icases Hph' with ⟨Hp, Hph⟩
  unfold agPend
  icases Hp with ⟨HtS, HtR, HpS, HpR, HcR⟩
  iapply (wp_send_ag A B K c s hsrc hdst hn hS hR)
  isplitr; · iexact Hr
  isplitl [Hc]; · iexact Hc
  isplitl [Hg]; · iexact Hg
  isplitl [HO]; · iexact HO
  isplitl [HtS]; · iexact HtS
  isplitl [HtR]; · iexact HtR
  iintro ⟨HcS, HO⟩
  iapply (wp_wait_copy A B K c (2, s) hS' hsW (O := agO c (s + 1)) (above_agO c _ (show 0 < _ by omega) (by omega)))
  isplitr; · iexact Hr
  isplitl [HcS]; · iexact HcS
  isplitl [HO]; · iexact HO
  isplitl [HpS]; · iexact HpS
  iintro ⟨Hback, HzS, HO⟩
  ihave Hback := (show pay A B c (agS s) false ⊢ chunk c (ck (nxt c) s) (total A B (ck (nxt c) s)) from .rfl) $$ Hback
  iapply (wp_wait_copy A B K c (3, s) hR' hdW (O := agO c (s + 1)) (above_agO c _ (show 9 + s.val < _ by omega) (by omega)))
  isplitr; · iexact Hr
  isplitl [HcR]; · iexact HcR
  isplitl [HO]; · iexact HO
  isplitl [HpR]; · iexact HpR
  iintro ⟨Hpay, HzR, HO⟩
  have hck : ck (nxt c) (s + 1) = ck c s := by rw [← ck_prv, prv_nxt]
  rw [hck]
  ihave Hpay := (show pay A B c (agR s) false ⊢ iprop(chunk c (ck c s) (total A B (ck c s)) ∗ grants (Finset.Ico (s + 1) 7) (ck c s)) from .rfl) $$ Hpay
  icases Hpay with ⟨Hsl, Hg⟩
  iapply Hk
  isplitl [Hsl]; · iexact Hsl
  isplitl [Hg]; · iexact Hg
  isplitl [HO]; · iexact HO
  iapply Hph
  unfold agDone
  isplitl [HzS]; · iexact HzS
  isplitl [HzR]; · iexact HzR
  iexact Hback

end Steps

end Cert.KernelIdeal.Ring
-- ==== Proof.KernelIdeal.Buffers.lean ====
/-
# Buffers in pieces

The result buffer is its eight chunks and the landing buffer its seven slots. This module takes the
buffers apart and puts them together again, and counts the chunks in the order in which a device
sends them.
-/
module

public import proofs.«01_k».proof.Proof.KernelIdeal.Rules

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

instance elt_nonempty : Nonempty (Elt F .f32) := Elt.nonempty F .f32

/-! ## Contents in pieces -/

section Glue
variable {s : Shape} {T : Type} (r : T → Rect s) {α : Type} [Nonempty α]

/-- The contents that are `v t` on piece `t`. -/
def glue (v : ∀ t, (r t).shape.Idx → α) : s.Idx → α :=
  Function.extend (fun p : Σ t, (r t).shape.Idx => (r p.1).emb p.2) (fun p => v p.1 p.2) fun _ => Classical.arbitrary α

theorem glue_emb (hd : ∀ t t', t ≠ t' → Disjoint (r t).set (r t').set) (v : ∀ t, (r t).shape.Idx → α) (t : T) (j : (r t).shape.Idx) :
    glue r v ((r t).emb j) = v t j := by
  have hinj : Function.Injective fun p : Σ t, (r t).shape.Idx => (r p.1).emb p.2 := by
    rintro ⟨t, j⟩ ⟨t', j'⟩ h
    have ht : t = t' := by
      by_contra hne
      have h₁ : (r t).emb j ∈ (r t).set := by rw [← Rect.map_emb_univ]; exact Finset.mem_map_of_mem _ (Finset.mem_univ _)
      have h₂ : (r t).emb j ∈ (r t').set := by
        rw [show (r t).emb j = (r t').emb j' from h, ← Rect.map_emb_univ]; exact Finset.mem_map_of_mem _ (Finset.mem_univ _)
      exact Finset.disjoint_left.mp (hd t t' hne) h₁ h₂
    subst ht
    exact congrArg (Sigma.mk t) ((r t).emb.injective h)
  exact hinj.extend_apply (fun p : Σ t, (r t).shape.Idx => v p.1 p.2) (fun _ => Classical.arbitrary α) ⟨t, j⟩

end Glue

/-! ## The pieces are disjoint, and they are everything -/

theorem chunk_disjoint (k k' : Dev nD) (h : k ≠ k') : Disjoint (chunkR k).set (chunkR k').set := by
  rw [Finset.disjoint_left]
  intro i hi hi'
  obtain ⟨j, hj, e⟩ := (chunkR k).mem_set.mp hi 0
  obtain ⟨j', hj', e'⟩ := (chunkR k').mem_set.mp hi' 0
  have e : (i 0).val = 256 * k.val + 1 * j := e
  have e' : (i 0).val = 256 * k'.val + 1 * j' := e'
  have hj : j < 256 := hj
  have hj' : j' < 256 := hj'
  exact h (Fin.ext (by omega))

theorem chunk_cover : (Finset.univ : Finset (Dev nD)).biUnion (fun k => (chunkR k).set) = Finset.univ := by
  ext i
  refine ⟨fun _ => Finset.mem_univ _, fun _ => Finset.mem_biUnion.mpr ⟨⟨(i 0).val / 256, ?_⟩, Finset.mem_univ _, ?_⟩⟩
  · have h : (i 0).val < 2048 := (i 0).isLt
    show _ < 8
    omega
  · refine (chunkR _).mem_set.mpr fun a => ?_
    fin_cases a
    · exact ⟨(i 0).val % 256, Nat.mod_lt _ (by decide), show (i 0).val = 256 * ((i 0).val / 256) + 1 * ((i 0).val % 256) by omega⟩
    · exact ⟨(i 1).val, (i 1).isLt, show (i 1).val = 0 + 1 * (i 1).val by omega⟩

theorem slot_disjoint (s s' : Fin 7) (h : s ≠ s') : Disjoint (slotR s).set (slotR s').set := by
  rw [Finset.disjoint_left]
  intro i hi hi'
  obtain ⟨j, hj, e⟩ := (slotR s).mem_set.mp hi 0
  obtain ⟨j', hj', e'⟩ := (slotR s').mem_set.mp hi' 0
  have e : (i 0).val = s.val + 1 * j := e
  have e' : (i 0).val = s'.val + 1 * j' := e'
  have hj : j < 1 := hj
  have hj' : j' < 1 := hj'
  exact h (Fin.ext (by omega))

theorem slot_cover : (Finset.univ : Finset (Fin 7)).biUnion (fun s => (slotR s).set) = Finset.univ := by
  ext i
  refine ⟨fun _ => Finset.mem_univ _, fun _ => Finset.mem_biUnion.mpr ⟨⟨(i 0).val, (i 0).isLt⟩, Finset.mem_univ _, ?_⟩⟩
  refine (slotR _).mem_set.mpr fun a => ?_
  fin_cases a
  · exact ⟨0, Nat.one_pos, show (i 0).val = (i 0).val + 1 * 0 by omega⟩
  · exact ⟨(i 1).val, (i 1).isLt, show (i 1).val = 0 + 1 * (i 1).val by omega⟩
  · exact ⟨(i 2).val, (i 2).isLt, show (i 2).val = 0 + 1 * (i 2).val by omega⟩

/-! ## The landing buffer -/

omit [FloatOps F] in
/-- A slot of the landing buffer, under one axis more or less, is the same elements. -/
theorem slot_of_slice (c : Dev nD) (s : Fin 7) (v : Vec F S1x256x2048 .f32) :
    (owns (c : Thread nD τ) (rM.slice (slotR s) (fun _ => rfl)) fullShare v : sProp 𝕄)
      ⊢ slot c s (shapeCast S256x2048 v shapeCasts_S1x256x2048_S256x2048) := by
  unfold slot owns
  iintro ⟨%f, %hf, H⟩
  iexists f
  isplitr; · ipureintro; rw [← hf]; rfl
  rw [show (slotM s).view.set = (rM.slice (slotR s) (fun _ => rfl)).view.set from View.set_reshape ..]
  iexact H
omit [FloatOps F] in
theorem slice_of_slot (c : Dev nD) (s : Fin 7) :
    (iprop(∃ v, slot c s v) : sProp 𝕄) ⊢ iprop(∃ v, owns (c : Thread nD τ) (rM.slice (slotR s) (fun _ => rfl)) fullShare v) := by
  unfold slot owns
  iintro ⟨%v, %f, %hf, H⟩
  iexists _; iexists f
  isplitr; · ipureintro; rfl
  rw [show (slotM s).view.set = (rM.slice (slotR s) (fun _ => rfl)).view.set from View.set_reshape ..]
  iexact H

omit [FloatOps F] in
/-- The landing buffer is its slots. -/
theorem slots_split (c : Dev nD) :
    (iprop(∃ f : Buf (Elt F) ((c : Thread nD τ).loc cc0_scratch0), ((c : Thread nD τ).loc cc0_scratch0) ↦{fullShare} f) : sProp 𝕄)
      ⊢ slots c := by
  iintro ⟨%f, H⟩
  ihave H := (Entails.of_eq (owns_whole (c : Thread nD τ) cc0_scratch0 fullShare f).symm) $$ H
  ihave H := (owns_rects (c : Thread nD τ) rM fullShare slotR (fun _ _ => rfl) slot_disjoint slot_cover f) $$ H
  unfold slots
  iapply (show bigSep Finset.univ (fun t : Fin 7 => owns (c : Thread nD τ) (rM.slice (slotR t) (fun _ => rfl)) fullShare (fun j => f ((slotR t).emb j)))
      ⊢ (bigSep Finset.univ fun s : Fin 7 => iprop(∃ v, slot c s v) : sProp 𝕄) from
    bigSep_mono fun s _ => (slot_of_slice c s _).trans (by iintro H; iexists _; iexact H))
  iexact H

/-- The slots are the landing buffer. -/
theorem slots_join (c : Dev nD) :
    (slots c : sProp 𝕄)
      ⊢ iprop(∃ f : Buf (Elt F) ((c : Thread nD τ).loc cc0_scratch0), ((c : Thread nD τ).loc cc0_scratch0) ↦{fullShare} f) := by
  refine (show (slots c : sProp 𝕄) ⊢ bigSep Finset.univ fun s : Fin 7 => iprop(∃ v, owns (c : Thread nD τ) (rM.slice (slotR s) (fun _ => rfl)) fullShare v) from
    bigSep_mono fun s _ => slice_of_slot c s).trans ?_
  haveI : ∀ i : Fin 7, Nonempty ((slotR i).shape.Idx → Elt F .f32) := fun _ => ⟨fun _ => Classical.choice elt_nonempty⟩
  refine (bigSep_exists_pi Finset.univ fun (s : Fin 7) v => owns (c : Thread nD τ) (rM.slice (slotR s) (fun _ => rfl)) fullShare v).trans ?_
  iintro ⟨%v, H⟩
  iexists (glue slotR v)
  iapply (Entails.of_eq (owns_whole (c : Thread nD τ) cc0_scratch0 fullShare (glue slotR v)))
  iapply (owns_of_rects (c : Thread nD τ) rM fullShare slotR (fun _ _ => rfl) slot_disjoint slot_cover (glue slotR v))
  iapply (Entails.of_eq (bigSep_congr fun s _ => by rw [funext fun j => glue_emb slotR slot_disjoint v s j])) $$ H

/-! ## The result buffer -/

section Out
variable (A : Dev nD → Vec F S2048x1024 .f32) (B : Dev nD → Vec F S1024x2048 .f32)

/-- What every device's result buffer holds at the end: each chunk's total. -/
def out : Vec F S2048x2048 .f32 := glue chunkR fun k => total A B k

theorem out_emb (k : Dev nD) (j : S256x2048.Idx) : out A B ((chunkR k).emb j) = total A B k j :=
  glue_emb chunkR chunk_disjoint (fun k => total A B k) k j

omit [FloatOps F] in
/-- The result buffer is its chunks, -/
theorem chunks_split (c : Dev nD) (X : Buf (Elt F) ((c : Thread nD τ).loc cc0_stg2_0)) :
    (((c : Thread nD τ).loc cc0_stg2_0) ↦{fullShare} X : sProp 𝕄)
      ⊢ bigSep Finset.univ fun k : Dev nD => chunk c k fun j => X ((chunkR k).emb j) := by
  iintro H
  ihave H := (Entails.of_eq (owns_whole (c : Thread nD τ) cc0_stg2_0 fullShare X).symm) $$ H
  ihave H := (owns_rects (c : Thread nD τ) oM fullShare chunkR (fun _ _ => rfl) chunk_disjoint chunk_cover X) $$ H
  unfold chunk
  iexact H
/-- and the chunks are the result buffer. -/
theorem chunks_join (c : Dev nD) (X : Buf (Elt F) ((c : Thread nD τ).loc cc0_stg2_0)) :
    (bigSep Finset.univ fun k : Dev nD => chunk c k fun j => X ((chunkR k).emb j))
      ⊢ (((c : Thread nD τ).loc cc0_stg2_0) ↦{fullShare} X : sProp 𝕄) := by
  unfold chunk
  iintro H
  iapply (Entails.of_eq (owns_whole (c : Thread nD τ) cc0_stg2_0 fullShare X))
  iapply (owns_of_rects (c : Thread nD τ) oM fullShare chunkR (fun _ _ => rfl) chunk_disjoint chunk_cover X)
  iexact H

/-- The result buffer holding the device's own product is its chunks at its own parts, in the order of sending. -/
theorem parts_split (c : Dev nD) :
    (((c : Thread nD τ).loc cc0_stg2_0) ↦{fullShare} (k0_pay1 (A c) (B c)) : sProp 𝕄)
      ⊢ iprop(chunk c (ck c 0) (part A B c (ck c 0))
        ∗ bigSep Finset.univ fun i : Fin 7 => chunk c (ck c (i.val + 1)) (part A B c (ck c (i.val + 1)))) := by
  refine (chunks_split c _).trans (Entails.of_eq ?_)
  show bigSep Finset.univ (fun k : Dev nD => chunk c k (part A B c k)) = _
  rw [bigSep_univ_equiv (ckEquiv c), Fin.univ_succ, Finset.cons_eq_insert, bigSep_insert (by simp), bigSep_map]
  rfl

/-- The chunks at their totals, in the order of the all-gather, are the result buffer. -/
theorem totals_join (c : Dev nD) :
    iprop(chunk c (ck (nxt c) 7) (total A B (ck (nxt c) 7))
        ∗ bigSep Finset.univ fun i : Fin 7 => chunk c (ck (nxt c) i.val) (total A B (ck (nxt c) i.val)))
      ⊢ (((c : Thread nD τ).loc cc0_stg2_0) ↦{fullShare} (out A B) : sProp 𝕄) := by
  refine BIBase.Entails.trans (Entails.of_eq ?_) (chunks_join c (out A B))
  rw [show (fun k : Dev nD => (chunk c k fun j => out A B ((chunkR k).emb j) : sProp 𝕄)) = fun k : Dev nD => chunk c k (total A B k) from
      funext fun k => congrArg (chunk c k) (funext fun j => out_emb A B k j),
    bigSep_univ_equiv (ckEquiv (nxt c)), Fin.univ_castSuccEmb 7, Finset.cons_eq_insert,
    bigSep_insert (by rw [Finset.mem_map]; rintro ⟨i, -, h⟩; exact Fin.castSucc_ne_last i h), bigSep_map]
  rfl

end Out

end Cert.KernelIdeal.Ring
-- ==== Proof.KernelIdeal.Body.lean ====
/-
# The kernel's body

From its two operands staged, its landing slots, and its share of the ring's semaphores, a device
runs the whole body: the barrier, its own product, the seven reduce-scatter steps, the seven
all-gather steps, and the closing barrier. At the end its result buffer holds every chunk's total.
-/
module

public import proofs.«01_k».proof.Proof.KernelIdeal.Steps
public import proofs.«01_k».proof.Proof.KernelIdeal.Buffers

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The places that the program computes -/

/-- The chunk that reduce-scatter step `s` sends, -/
theorem off_send (c : Dev nD) (s : Fin 7) : k0_off1 c (BitVec.ofNat 32 s.val) = ![256 * (ck c s).val, 0] := k0_off1_eq c s
/-- the chunk that it adds to, -/
theorem off_add (c : Dev nD) (s : Fin 7) : k0_off2 c (BitVec.ofNat 32 s.val) = ![256 * (ck c (s + 1)).val, 0] := by
  rw [k0_off2_eq]
  have h : ((c.val + 7) - s.val) % 8 = (ck c (s + 1)).val := by
    show _ = (c.val + 8 - (s.val + 1)) % 8
    congr 1; omega
  rw [h]
/-- and the chunk that all-gather step `s` sends. -/
theorem off_gather (c : Dev nD) (s : Fin 7) : k0_off3 c (BitVec.ofNat 32 s.val) = ![256 * (ck (nxt c) s).val, 0] := by
  rw [k0_off3_eq]
  have h : ((c.val + 9) - s.val) % 8 = (ck (nxt c) s).val := by
    show _ = ((c.val + 1) % 8 + 8 - s.val) % 8
    have := s.isLt
    omega
  rw [h]

theorem hz : (![0, 0] : Fin 2 → Nat) = fun _ => 0 := funext fun a => by fin_cases a <;> rfl

/-- The buffer `b` of device `c`, whole, at contents `X`. -/
abbrev buf (c : Dev nD) (b : Ref sig .tc) (X : Buf (Elt F) ((c : Thread nD τ).loc b)) : sProp 𝕄 := ((c : Thread nD τ).loc b) ↦{fullShare} X

/-- A copy of a chunk credits the same, wherever the chunk begins. -/
theorem chunk_credit (off : Fin 2 → ℕ) (hb : ∀ a, off a + S256x2048.size a ≤ S2048x2048.size a) :
    (oM.slice (Rect.unit (s := S2048x2048) off S256x2048.size hb) (fun _ => rfl)).view.dmaCredit = N := rfl

/-! ## The whole buffers -/

section Whole
variable (c : Dev nD) {α : Type}

theorem wp_load_a (X : Vec F S2048x1024 .f32) {hl : aM.view.LoadsAt (Rect.unit (s := S2048x1024) ![0, 0] S2048x1024.size inb_S2048x1024_S2048x1024_0_0).toLoadRect}
    {k : Vec F S2048x1024 .f32 → Prog (TpuEff nD τ sig (Elt F) Λ₀ .tc) α} (Q : α → sProp 𝕄) :
    iprop(buf c cc0_stg0_0 X ∗ (buf c cc0_stg0_0 X -∗ WP c (k X) Q))
      ⊢ WP c (.op (.load aM (Rect.unit (s := S2048x1024) ![0, 0] S2048x1024.size inb_S2048x1024_S2048x1024_0_0).toLoadRect hl) k) Q := by
  iintro ⟨H, Hk⟩
  iapply (wp_load 𝒱₀ (c : Thread nD τ) none Set.univ (m := aM) (Finset.subset_univ _)) $$ H
  iintro H
  ihave Hw := Hk $$ H
  iapply (Entails.of_eq (congrArg (fun v => WP c (k v) Q) (Memref.readAt_unit_zero (Elt F) cc0_stg0_0 hz _ X).symm))
  iexact Hw
theorem wp_load_b (X : Vec F S1024x2048 .f32) {hl : bM.view.LoadsAt (Rect.unit (s := S1024x2048) ![0, 0] S1024x2048.size inb_S1024x2048_S1024x2048_0_0).toLoadRect}
    {k : Vec F S1024x2048 .f32 → Prog (TpuEff nD τ sig (Elt F) Λ₀ .tc) α} (Q : α → sProp 𝕄) :
    iprop(buf c cc0_stg1_0 X ∗ (buf c cc0_stg1_0 X -∗ WP c (k X) Q))
      ⊢ WP c (.op (.load bM (Rect.unit (s := S1024x2048) ![0, 0] S1024x2048.size inb_S1024x2048_S1024x2048_0_0).toLoadRect hl) k) Q := by
  iintro ⟨H, Hk⟩
  iapply (wp_load 𝒱₀ (c : Thread nD τ) none Set.univ (m := bM) (Finset.subset_univ _)) $$ H
  iintro H
  ihave Hw := Hk $$ H
  iapply (Entails.of_eq (congrArg (fun v => WP c (k v) Q) (Memref.readAt_unit_zero (Elt F) cc0_stg1_0 hz _ X).symm))
  iexact Hw
theorem wp_load_o (X : Vec F S2048x2048 .f32) {hl : oM.view.LoadsAt (Rect.unit (s := S2048x2048) ![0, 0] S2048x2048.size inb_S2048x2048_S2048x2048_0_0).toLoadRect}
    {k : Vec F S2048x2048 .f32 → Prog (TpuEff nD τ sig (Elt F) Λ₀ .tc) α} (Q : α → sProp 𝕄) :
    iprop(buf c cc0_stg2_0 X ∗ (buf c cc0_stg2_0 X -∗ WP c (k X) Q))
      ⊢ WP c (.op (.load oM (Rect.unit (s := S2048x2048) ![0, 0] S2048x2048.size inb_S2048x2048_S2048x2048_0_0).toLoadRect hl) k) Q := by
  iintro ⟨H, Hk⟩
  iapply (wp_load 𝒱₀ (c : Thread nD τ) none Set.univ (m := oM) (Finset.subset_univ _)) $$ H
  iintro H
  ihave Hw := Hk $$ H
  iapply (Entails.of_eq (congrArg (fun v => WP c (k v) Q) (Memref.readAt_unit_zero (Elt F) cc0_stg2_0 hz _ X).symm))
  iexact Hw
theorem wp_store_o (X Y : Vec F S2048x2048 .f32) {hx hm} {k : PUnit → Prog (TpuEff nD τ sig (Elt F) Λ₀ .tc) α} (Q : α → sProp 𝕄) :
    iprop(buf c cc0_stg2_0 X ∗ (buf c cc0_stg2_0 Y -∗ WP c (k ⟨⟩) Q))
      ⊢ WP c (.op (.store oM (Rect.unit (s := S2048x2048) ![0, 0] S2048x2048.size inb_S2048x2048_S2048x2048_0_0) Y Finset.univ hx hm) k) Q := by
  iintro ⟨H, Hk⟩
  iapply (wp_store 𝒱₀ (c : Thread nD τ) none Set.univ (m := oM)
    (r := Rect.unit (s := S2048x2048) ![0, 0] S2048x2048.size inb_S2048x2048_S2048x2048_0_0) (Mk := Finset.univ) (Finset.subset_univ _)) $$ H
  iintro H
  iapply Hk
  iapply (Entails.of_eq (congrArg (fun v : Vec F S2048x2048 .f32 => buf c cc0_stg2_0 v)
    (Memref.write_access_unit_zero_univ (Elt F) cc0_stg2_0 hz inb_S2048x2048_S2048x2048_0_0 X Y)))
  iexact H

end Whole

section Body
variable (A : Dev nD → Vec F S2048x1024 .f32) (B : Dev nD → Vec F S1024x2048 .f32) (K : Dev nD × Cell → ℕ)

/-! ## What a device starts and ends with -/

/-- Reduce-scatter step `i`: the duties of the copy, the two semaphores and the credit of the landing. -/
def rsTok (c : Dev nD) (i : Fin 7) : sProp 𝕄 :=
  iprop(tok c (rsS i) false ∗ tok (nxt c) (rsR i) false ∗ pos c (rsS i) ∗ pos c (rsR i) ∗ cred (due c (rsR i)))
/-- A barrier: a signal each way, and the wait for both neighbours'. -/
def barTok (c : Dev nD) (x : Cell) : sProp 𝕄 :=
  iprop(tok (prv c) x true ∗ tok (nxt c) x false ∗ pos c x ∗ cred (tallyAt (kcell (c, x)) () 2))

/-- Device `c`'s share of the ring at the start. -/
def ghost (c : Dev nD) : sProp 𝕄 :=
  iprop(records A B K ∗ barTok c bar ∗ barTok c fin ∗ (bigSep Finset.univ fun i : Fin 7 => rsTok c i)
    ∗ bigSep Finset.univ fun i : Fin 7 => agPend c i)

/-- The kernel's own semaphores at zero. -/
def zeros (c : Dev nD) : sProp 𝕄 :=
  iprop(semVal (kcell (c, fin)) 0 ∗ (bigSep Finset.univ fun i : Fin 7 => iprop(semVal (kcell (c, rsS i)) 0 ∗ semVal (kcell (c, rsR i)) 0))
    ∗ bigSep Finset.univ fun i : Fin 7 => iprop(semVal (kcell (c, agS i)) 0 ∗ semVal (kcell (c, agR i)) 0))

/-- The landing buffer at some contents. -/
def scratch (c : Dev nD) : sProp 𝕄 := iprop(∃ f, buf c cc0_scratch0 f)

variable (c : Dev nD)

/-- The reduce-scatter starts from the device's own parts, its share of the steps and the next device's slots. -/
theorem rs_start :
    iprop((bigSep Finset.univ fun i : Fin 7 => rsTok c i) ∗ slots (nxt c)
        ∗ (∃ W, owes (c : Thread nD τ) (rsO c 0) W) ∗ buf c cc0_stg2_0 (k0_pay1 (A c) (B c)))
      ⊢ rsSt A B c 0 := by
  iintro ⟨Ht, Hs, HO, Hb⟩
  ihave Hb := (parts_split A B c) $$ Hb
  icases Hb with ⟨Hc, Hrest⟩
  unfold rsSt
  isplitl [Hc]; · iexact Hc
  isplitr
  · unfold grants; rw [Finset.range_zero, bigSep_empty]; iempintro
  isplitl [HO]; · iexact HO
  rw [phase_zero]
  ihave H := (show iprop((bigSep Finset.univ fun i : Fin 7 => rsTok c i) ∗ (slots (nxt c)
      ∗ bigSep Finset.univ fun i : Fin 7 => chunk c (ck c (i.val + 1)) (part A B c (ck c (i.val + 1))))) ⊢ bigSep Finset.univ fun i : Fin 7 => rsPend A B c i from by
    unfold slots
    rw [← bigSep_sep', ← bigSep_sep']
    refine bigSep_mono fun i _ => (show (_ : sProp 𝕄) ⊢ _ from ?_)
    unfold rsTok rsPend
    iintro ⟨⟨H1, H2, H3, H4, H5⟩, H6, H7⟩
    isplitl [H1]; · iexact H1
    isplitl [H2]; · iexact H2
    isplitl [H3]; · iexact H3
    isplitl [H4]; · iexact H4
    isplitl [H5]; · iexact H5
    isplitl [H6]; · iexact H6
    iexact H7) $$ [Ht Hs Hrest]
  · isplitl [Ht]; · iexact Ht
    isplitl [Hs]; · iexact Hs
    iexact Hrest
  iexact H

/-- The end of the reduce-scatter: its semaphores at zero, the device's own slots back, and the start of the all-gather. -/
theorem rs_end :
    iprop(rsSt A B c 7 ∗ bigSep Finset.univ fun i : Fin 7 => agPend c i)
      ⊢ iprop((bigSep Finset.univ fun i : Fin 7 => iprop(semVal (kcell (c, rsS i)) 0 ∗ semVal (kcell (c, rsR i)) 0)) ∗ slots c ∗ agSt A B c 0) := by
  unfold rsSt
  rw [phase_seven, rsO_end]
  iintro ⟨⟨Hc, Hg, HO, Hd⟩, Ht⟩
  ihave Hd := (show bigSep Finset.univ (fun i : Fin 7 => rsDone c i) ⊢ iprop((bigSep Finset.univ fun i : Fin 7 => iprop(semVal (kcell (c, rsS i)) 0 ∗ semVal (kcell (c, rsR i)) 0)) ∗ slots (F := F) c) from by
    unfold slots
    rw [← bigSep_sep']
    refine bigSep_mono fun i _ => (show (_ : sProp 𝕄) ⊢ _ from ?_)
    unfold rsDone
    iintro ⟨H1, H2, H3⟩
    isplitl [H1 H2]
    · isplitl [H1]; · iexact H1
      iexact H2
    iexact H3) $$ Hd
  icases Hd with ⟨Hz, Hs⟩
  isplitl [Hz]; · iexact Hz
  isplitl [Hs]; · iexact Hs
  unfold agSt
  have htot : total A B (ck (nxt c) 0) = acc A B 7 c := by unfold total; rw [ck_zero, prv_nxt]
  rw [htot, ck_seven, phase_zero, ← Finset.range_eq_Ico]
  isplitl [Hc]; · iexact Hc
  isplitl [Hg]; · iexact Hg
  isplitl [HO]; · iexact HO
  iexact Ht

/-- The end of the all-gather: its semaphores at zero, the result, and what the closing barrier owes. -/
theorem ag_end :
    agSt A B c 7 ⊢ iprop((bigSep Finset.univ fun i : Fin 7 => iprop(semVal (kcell (c, agS i)) 0 ∗ semVal (kcell (c, agR i)) 0))
      ∗ buf c cc0_stg2_0 (out A B) ∗ ∃ W, owes (c : Thread nD τ) (finO c) W) := by
  unfold agSt
  rw [phase_seven, agO_end]
  iintro ⟨Hc, -, HO, Hd⟩
  ihave Hd := (show bigSep Finset.univ (fun i : Fin 7 => agDone A B c i) ⊢ iprop((bigSep Finset.univ fun i : Fin 7 => iprop(semVal (kcell (c, agS i)) 0 ∗ semVal (kcell (c, agR i)) 0))
      ∗ bigSep Finset.univ fun i : Fin 7 => chunk c (ck (nxt c) i.val) (total A B (ck (nxt c) i.val))) from by
    rw [← bigSep_sep']
    refine bigSep_mono fun i _ => (show (_ : sProp 𝕄) ⊢ _ from ?_)
    unfold agDone
    iintro ⟨H1, H2, H3⟩
    isplitl [H1 H2]
    · isplitl [H1]; · iexact H1
      iexact H2
    iexact H3) $$ Hd
  icases Hd with ⟨Hz, Hs⟩
  isplitl [Hz]; · iexact Hz
  isplitl [Hc Hs]
  · iapply (totals_join A B c)
    isplitl [Hc]; · iexact Hc
    iexact Hs
  iexact HO

/-- The sum of a chunk and of what has landed, as the program forms it. -/
theorem add_landed (v : Vec F S256x2048 .f32) (w : Vec F S1x256x2048 .f32) :
    addf (shapeCast S256x2048 v shapeCasts_S256x2048_S256x2048) (shapeCast S256x2048 w shapeCasts_S1x256x2048_S256x2048)
      = addf v (shapeCast S256x2048 w shapeCasts_S1x256x2048_S256x2048) := by
  rw [show shapeCast S256x2048 v shapeCasts_S256x2048_S256x2048 = v from funext fun i => congrArg v (Shape.reshapeEquiv_self _ i)]

/-- What the body leaves: the operands, the result, the landing buffer, the semaphores at zero, and nothing owed. -/
def bodyEnd : sProp 𝕄 :=
  iprop(buf c cc0_stg0_0 (A c) ∗ buf c cc0_stg1_0 (B c) ∗ buf c cc0_stg2_0 (out A B) ∗ scratch c
    ∗ semVal (kcell (c, bar)) 0 ∗ zeros c ∗ ∃ W, owes (c : Thread nD τ) 0 W)

/-- At the end of the body, with all of that in hand. -/
theorem wp_done (Q : PUnit → sProp 𝕄) :
    iprop(buf c cc0_stg0_0 (A c) ∗ buf c cc0_stg1_0 (B c) ∗ buf c cc0_stg2_0 (out A B) ∗ slots c
        ∗ semVal (kcell (c, bar)) 0 ∗ semVal (kcell (c, fin)) 0
        ∗ (bigSep Finset.univ fun i : Fin 7 => iprop(semVal (kcell (c, rsS i)) 0 ∗ semVal (kcell (c, rsR i)) 0))
        ∗ (bigSep Finset.univ fun i : Fin 7 => iprop(semVal (kcell (c, agS i)) 0 ∗ semVal (kcell (c, agR i)) 0))
        ∗ (∃ W, owes (c : Thread nD τ) 0 W) ∗ (bodyEnd A B c -∗ Q ⟨⟩))
      ⊢ WP c (Prog.ret ⟨⟩) Q := by
  unfold WP
  rw [wp_ret]
  iintro ⟨Ha, Hb, Ho, Hs, HzB, HzF, HzR, HzG, HO, Hk⟩
  imodintro
  iapply Hk
  unfold bodyEnd zeros scratch
  isplitl [Ha]; · iexact Ha
  isplitl [Hb]; · iexact Hb
  isplitl [Ho]; · iexact Ho
  isplitl [Hs]; · iapply (slots_join c); iexact Hs
  isplitl [HzB]; · iexact HzB
  isplitl [HzF HzR HzG]
  · isplitl [HzF]; · iexact HzF
    isplitl [HzR]; · iexact HzR
    iexact HzG
  iexact HO

end Body

end Cert.KernelIdeal.Ring
-- ==== Proof.KernelIdeal.Launch.lean ====
/-
# Dealing the ring out

At the launch every semaphore's schedule is opened, and its duties are minted on the device that
owns the semaphore. One permutation of the devices per kind of duty then deals each duty to the
device that pays it, and the credits of what will be paid go to the devices that wait for it.
-/
module

public import proofs.«01_k».proof.Proof.KernelIdeal.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of semaphores -/

omit [FloatOps F] in
/-- Something for every semaphore is something for the two barriers and for each of the four families. -/
theorem bigSep_cells (Φ : Cell → sProp 𝕄) :
    bigSep Finset.univ Φ = iprop(Φ bar ∗ Φ fin ∗ (bigSep Finset.univ fun s : Fin 7 => Φ (rsS s)) ∗ (bigSep Finset.univ fun s : Fin 7 => Φ (rsR s))
      ∗ (bigSep Finset.univ fun s : Fin 7 => Φ (agS s)) ∗ bigSep Finset.univ fun s : Fin 7 => Φ (agR s)) := by
  rw [bigSep_univ_sum, bigSep_univ_sum, bigSep_univ_prod, bigSep_univ_eq_bigSepL ([0, 1, 2, 3] : List (Fin 4)) (by decide) (by decide),
    bigSep_univ_eq_bigSepL [()] (by decide) (by decide), bigSep_univ_eq_bigSepL [()] (by decide) (by decide)]
  rfl

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- What can be done on each index beside something that may be kept can be done on all. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## What is minted -/

/-- The ring's semaphores on all devices, -/
def ringCells : Finset (GSem nD τ sig) := Finset.univ.map ⟨kcell, kcell_injective⟩

theorem duty_injective : Function.Injective fun cy : Dev nD × (Cell × Bool) => ((kcell (cy.1, cy.2.1), 0, cy.2.2) : GSem nD τ sig × ℕ × Bool) := by
  rintro ⟨c, x, d⟩ ⟨c', x', d'⟩ h
  have h1 := kcell_injective (congrArg Prod.fst h)
  have h2 : d = d' := congrArg (fun q : GSem nD τ sig × ℕ × Bool => q.2.2) h
  cases h1; cases h2; rfl
/-- and two duties for each. -/
def ringToks : Finset (GSem nD τ sig × ℕ × Bool) := Finset.univ.map ⟨_, duty_injective⟩

/-- The ghost state at the launch: the staging copies' beside the ring's. -/
def u₀ : UU :=
  (initOf (Pipeline.cells cfgs cellOf_inj) (Pipeline.launchToks cfgs cellOf_inj), initOf ringCells ringToks)

section Deal
variable (A : Dev nD → Vec F S2048x1024 .f32) (B : Dev nD → Vec F S1024x2048 .f32)

/-- What device `c` is dealt: of each of its semaphores the schedule's state, its own position, and both duties. -/
def G (c : Dev nD) : sProp 𝕄 :=
  iprop((bigSep Finset.univ fun x : Cell => roundState ER (ringRd A B) (kcell (c, x)) 0)
    ∗ (bigSep Finset.univ fun x : Cell => iprop(pos c x ∗ reached ER (kcell (c, x)) 0))
    ∗ bigSep Finset.univ fun y : Cell × Bool => tok c y.1 y.2)

theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun x : Cell => Φ (kcell (c, x)) := by
    unfold ringCells; rw [bigSep_map, bigSep_univ_prod]; rfl
  have hT : bigSep ringToks (fun q => (dutyTok ER q.1 q.2.1 q.2.2 : sProp 𝕄))
      = bigSep Finset.univ fun c : Dev nD => bigSep Finset.univ fun y : Cell × Bool => tok c y.1 y.2 := by
    unfold ringToks; rw [bigSep_map, bigSep_univ_prod]; rfl
  iintro H
  imod (Rounds.fund ER (ringRd A B) ringCells ringToks) $$ H with ⟨Hst, Hr, Hat, Ht⟩
  imodintro
  ihave Hst := (Entails.of_eq (hX fun g => roundState ER (ringRd A B) g 0)) $$ Hst
  ihave Hat := (Entails.of_eq (hX fun g => atPos ER g 0 ∅ 0)) $$ Hat
  ihave Hr := (Entails.of_eq (hX fun g => reached ER g 0)) $$ Hr
  ihave Ht := (Entails.of_eq hT) $$ Ht
  unfold G; simp only [bigSep_sep']
  isplitl [Hst]; · iexact Hst
  isplitl [Hat Hr]
  · isplitl [Hat] <;> iassumption
  iexact Ht

/-! ## The semaphores open -/

omit [FloatOps F] in
/-- The barrier's semaphore is the one that is not scoped; -/
theorem unscopedSems0_eq (c : Dev nD) : (unscopedSems0 c : sProp 𝕄) = semVal (kcell (c, bar)) 0 := by
  unfold unscopedSems0; rw [bigSep_eq_bigSepL_of_eq [SemLoc.reg barS] (by decide) (by decide)]; rfl
omit [FloatOps F] in
/-- with the scoped ones it makes all of the ring's. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun x : Cell => semVal (kcell (c, x)) 0 : sProp 𝕄) := by
  rw [unscopedSems0_eq, bigSep_univ_sum, bigSep_univ_eq_bigSepL [()] (by decide) (by decide)]
  rfl
omit [FloatOps F] in
/-- All of them at zero, as the body leaves them. -/
theorem zeros_eq (c : Dev nD) :
    iprop(semVal (kcell (c, bar)) 0 ∗ zeros c)
      ⊢ (bigSep Finset.univ fun x : Cell => semVal (kcell (c, x)) 0 : sProp 𝕄) := by
  rw [bigSep_cells]; unfold zeros; rw [bigSep_sep', bigSep_sep']
  iintro ⟨Hb, Hf, ⟨H1, H2⟩, H3, H4⟩
  isplitl [Hb]; · iexact Hb
  isplitl [Hf]; · iexact Hf
  isplitl [H1]; · iexact H1
  isplitl [H2]; · iexact H2
  isplitl [H3]; · iexact H3
  iexact H4

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun x => iprop(∃ κ : ℕ, cellInv ER (ringRd A B) κ (kcell (c, x))))
          ∗ (bigSep Finset.univ fun x : Cell => iprop(pos c x ∗ reached ER (kcell (c, x)) 0))
          ∗ bigSep Finset.univ fun y : Cell × Bool => tok c y.1 y.2) := by
  unfold G
  iintro ⟨Hos, Hus, Hst, Hat, Ht⟩
  ihave Hv := (Entails.of_eq (sems0_eq (F := F) c)) $$ [Hos Hus]
  · isplitl [Hus] <;> iassumption
  imod (show iprop((bigSep Finset.univ fun x : Cell => semVal (kcell (c, x)) 0) ∗ bigSep Finset.univ fun x : Cell => roundState ER (ringRd A B) (kcell (c, x)) 0)
      ⊢ (|={Set.univ}=> bigSep Finset.univ fun x => iprop(∃ κ : ℕ, cellInv ER (ringRd A B) κ (kcell (c, x))) : sProp 𝕄) from by
        rw [← bigSep_sep']
        exact (bigSep_mono fun x _ => (Rounds.body_intro ER (ringRd A B) (kcell (c, x))).trans inv_alloc).trans (bigSep_fupd _ _)) $$ [Hv Hst] with Hinv
  · isplitl [Hv] <;> iassumption
  imodintro
  isplitl [Hinv]; · iexact Hinv
  isplitl [Hat]; · iexact Hat
  iexact Ht

/-! ## The duties dealt round the ring -/

/-- The device whose semaphore a device pays with this duty: a barrier's `true` goes to the device before, its `false` and
    the landing of a copy to the next, and the sending of a copy stays. -/
def payee : Cell × Bool → Dev nD ≃ Dev nD
  | (.inl _, true) => ring.symm
  | (.inl _, false) => ring
  | (.inr (.inl _), true) => ring.symm
  | (.inr (.inl _), false) => ring
  | (.inr (.inr (0, _)), _) => Equiv.refl _
  | (.inr (.inr (1, _)), _) => ring
  | (.inr (.inr (2, _)), _) => Equiv.refl _
  | (.inr (.inr (3, _)), _) => ring

/-- All duties at once: each moves to its payer. -/
def payees : Dev nD × (Cell × Bool) ≃ Dev nD × (Cell × Bool) where
  toFun cy := (payee cy.2 cy.1, cy.2)
  invFun cy := ((payee cy.2).symm cy.1, cy.2)
  left_inv cy := by simp
  right_inv cy := by simp

omit [FloatOps F] in
theorem toks_dealt : (bigSep Finset.univ fun c : Dev nD => bigSep Finset.univ fun y : Cell × Bool => (tok c y.1 y.2 : sProp 𝕄))
    = bigSep Finset.univ fun c : Dev nD => bigSep Finset.univ fun y : Cell × Bool => tok (payee y c) y.1 y.2 := by
  rw [← bigSep_univ_prod (fun cy : Dev nD × (Cell × Bool) => (tok cy.1 cy.2.1 cy.2.2 : sProp 𝕄)), bigSep_univ_equiv payees, bigSep_univ_prod]
  rfl

/-- What stays with device `c`: its positions, and the duties that it pays. -/
def share (c : Dev nD) : sProp 𝕄 :=
  iprop((bigSep Finset.univ fun x : Cell => pos c x) ∗ bigSep Finset.univ fun y : Cell × Bool => tok (payee y c) y.1 y.2)

/-- The credits of what device `c` waits for, beyond what its own copies give back. -/
def credits (c : Dev nD) : sProp 𝕄 :=
  iprop(cred (tallyAt (kcell (c, bar)) () 2) ∗ cred (tallyAt (kcell (c, fin)) () 2)
    ∗ (bigSep Finset.univ fun i : Fin 7 => cred (due c (rsR i))) ∗ bigSep Finset.univ fun i : Fin 7 => cred (due c (agR i)))

/-- The records, the device's share and its credits are what the body starts from. -/
theorem ghost_intro (K : Dev nD × Cell → ℕ) (c : Dev nD) : iprop(records A B K ∗ share c ∗ credits c) ⊢ ghost A B K c := by
  unfold share credits ghost barTok
  have hy : (bigSep Finset.univ fun y : Cell × Bool => (tok (payee y c) y.1 y.2 : sProp 𝕄))
      = bigSep Finset.univ fun x : Cell => iprop(tok (payee (x, false) c) x false ∗ tok (payee (x, true) c) x true) := by
    rw [bigSep_univ_prod]; exact bigSep_congr fun x _ => bigSep_bool _
  rw [hy, bigSep_cells, bigSep_cells]
  have hrs : (bigSep Finset.univ fun i : Fin 7 => rsTok c i : sProp 𝕄)
      = iprop((bigSep Finset.univ fun i : Fin 7 => tok c (rsS i) false) ∗ (bigSep Finset.univ fun i : Fin 7 => tok (nxt c) (rsR i) false)
        ∗ (bigSep Finset.univ fun i : Fin 7 => pos c (rsS i)) ∗ (bigSep Finset.univ fun i : Fin 7 => pos c (rsR i))
        ∗ bigSep Finset.univ fun i : Fin 7 => cred (due c (rsR i))) := by
    unfold rsTok; simp only [bigSep_sep']
  have hag : (bigSep Finset.univ fun i : Fin 7 => agPend c i : sProp 𝕄)
      = iprop((bigSep Finset.univ fun i : Fin 7 => tok c (agS i) false) ∗ (bigSep Finset.univ fun i : Fin 7 => tok (nxt c) (agR i) false)
        ∗ (bigSep Finset.univ fun i : Fin 7 => pos c (agS i)) ∗ (bigSep Finset.univ fun i : Fin 7 => pos c (agR i))
        ∗ bigSep Finset.univ fun i : Fin 7 => cred (due c (agR i))) := by
    unfold agPend; simp only [bigSep_sep']
  rw [hrs, hag]
  simp only [bigSep_sep']
  iintro ⟨#Hr, ⟨⟨PB, PF, P0, P1, P2, P3⟩, ⟨TBf, TBt⟩, ⟨TFf, TFt⟩, ⟨T0, -⟩, ⟨T1, -⟩, ⟨T2, -⟩, T3, -⟩, CB, CF, C1, C3⟩
  isplitr; · iexact Hr
  isplitl [TBt TBf PB CB]
  · isplitl [TBt]; · iexact TBt
    isplitl [TBf]; · iexact TBf
    isplitl [PB]; · iexact PB
    iexact CB
  isplitl [TFt TFf PF CF]
  · isplitl [TFt]; · iexact TFt
    isplitl [TFf]; · iexact TFf
    isplitl [PF]; · iexact PF
    iexact CF
  isplitl [T0 T1 P0 P1 C1]
  · isplitl [T0]; · iexact T0
    isplitl [T1]; · iexact T1
    isplitl [P0]; · iexact P0
    isplitl [P1]; · iexact P1
    iexact C1
  isplitl [T2]; · iexact T2
  isplitl [T3]; · iexact T3
  isplitl [P2]; · iexact P2
  isplitl [P3]; · iexact P3
  iexact C3

/-- What every device knows, but for the order of the waits. -/
def known (K : Dev nD × Cell → ℕ) : sProp 𝕄 :=
  iprop(bigSep Finset.univ (fun cx => cellInv ER (ringRd A B) (K cx) (kcell cx))
    ∗ bigSep Finset.univ (fun cx : Dev nD × Cell => reached ER (kcell cx) 0))
instance known_persistent (K : Dev nD × Cell → ℕ) : BI.Persistent (known A B K) := by unfold known; infer_instance

/-- What the launch makes of device `c`'s deal. -/
def G' (c : Dev nD) : sProp 𝕄 := iprop(∃ K, known A B K ∗ share c)

theorem regroup :
    (bigSep Finset.univ fun c : Dev nD => iprop((bigSep Finset.univ fun x => iprop(∃ κ : ℕ, cellInv ER (ringRd A B) κ (kcell (c, x))))
          ∗ (bigSep Finset.univ fun x : Cell => iprop(pos c x ∗ reached ER (kcell (c, x)) 0))
          ∗ bigSep Finset.univ fun y : Cell × Bool => tok c y.1 y.2) : sProp 𝕄)
      ⊢ bigSep Finset.univ (G' A B) := by
  rw [bigSep_sep', bigSep_sep', ← bigSep_univ_prod (fun cx : Dev nD × Cell => iprop(∃ κ : ℕ, cellInv ER (ringRd A B) κ (kcell cx))),
    bigSep_congr (s := Finset.univ) (fun (c : Dev nD) _ => bigSep_sep' Finset.univ (fun x : Cell => (pos c x : sProp 𝕄)) (fun x => reached ER (kcell (c, x)) 0)),
    bigSep_sep', ← bigSep_univ_prod (fun cx : Dev nD × Cell => (reached ER (kcell cx) 0 : sProp 𝕄)), toks_dealt]
  iintro ⟨HI, ⟨Hat, #HR⟩, Ht⟩
  ihave HK := (BI.bigSep_exists_pi Finset.univ (fun (cx : Dev nD × Cell) (κ : ℕ) => (cellInv ER (ringRd A B) κ (kcell cx) : sProp 𝕄))) $$ HI
  icases HK with ⟨%K, #HI⟩
  iapply (bigSep_beside (R := known A B K) (Φ := fun c => share c) fun c _ => (show iprop(known A B K ∗ share c) ⊢ G' A B c from by
    unfold G'; iintro H; iexists K; iexact H))
  isplitr
  · unfold known; isplitl; · iexact HI
    iexact HR
  · unfold share; rw [bigSep_sep']
    isplitl [Hat]; · iexact Hat
    iexact Ht

/-- Every device's semaphores opened and the duties dealt, all devices at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end Deal

/-! ## The credits -/

omit [FloatOps F] in
theorem cred_one (f finv : Dev nD → Dev nD) (h1 : ∀ c, f (finv c) = c) (h2 : ∀ d, finv (f d) = d) (x : Cell) (c : Dev nD) :
    (Pipeline.launchCred (fun d => due (f d) x) c : sProp 𝕄) ⊢ cred (due c x) :=
  Pipeline.launchCred_tallyAt (csem x) f finv h1 h2 () (amt x) c

omit [FloatOps F] in
/-- What the devices before owe a family. -/
theorem cred_dues (f : Fin 7 → Cell) (c : Dev nD) :
    (Pipeline.launchCred (fun d => dues f d 0) c : sProp 𝕄) ⊢ bigSep Finset.univ fun i : Fin 7 => cred (due c (f i)) := by
  have h : (fun d => dues f d 0) = fun d => ∑ i : Fin 7, due (nxt d) (f i) :=
    funext fun d => by unfold dues; exact Finset.sum_congr rfl fun i _ => if_pos (Nat.zero_le _)
  rw [h, Pipeline.launchCred_sum]
  exact bigSep_mono fun i _ => cred_one nxt prv nxt_prv prv_nxt (f i) c

omit [FloatOps F] in
/-- Both neighbours' signals at a barrier are a credit of two. -/
theorem cred_two (c : Dev nD) (x : Cell) (hx : amt x = 1) :
    iprop(cred (due c x) ∗ cred (due c x)) ⊢ (cred (tallyAt (kcell (c, x)) () 2) : sProp 𝕄) :=
  (cred_add _ _).2.trans (Entails.of_eq (by unfold due; rw [tallyAt_add, hx]))

omit [FloatOps F] in
/-- The launch's credits are those of what each device waits for. -/
theorem creds (c : Dev nD) : (Pipeline.launchCred O₀ c : sProp 𝕄) ⊢ credits c := by
  have h : (O₀ : Dev nD → CellTallies nD τ sig Unit)
      = fun d => ((((due (nxt d) fin + due (prv d) fin) + dues agR d 0) + dues rsR d 0) + due (nxt d) bar) + due (prv d) bar := rfl
  rw [h, Pipeline.launchCred_add, Pipeline.launchCred_add, Pipeline.launchCred_add, Pipeline.launchCred_add, Pipeline.launchCred_add]
  unfold credits
  iintro ⟨⟨⟨⟨⟨F1, F2⟩, HA⟩, HR⟩, B1⟩, B2⟩
  ihave F1 := (cred_one (F := F) nxt prv nxt_prv prv_nxt fin c) $$ F1
  ihave F2 := (cred_one (F := F) prv nxt prv_nxt nxt_prv fin c) $$ F2
  ihave B1 := (cred_one (F := F) nxt prv nxt_prv prv_nxt bar c) $$ B1
  ihave B2 := (cred_one (F := F) prv nxt prv_nxt nxt_prv bar c) $$ B2
  isplitl [B1 B2]
  · iapply (cred_two (F := F) c bar rfl)
    isplitl [B1] <;> iassumption
  isplitl [F1 F2]
  · iapply (cred_two (F := F) c fin rfl)
    isplitl [F1] <;> iassumption
  isplitl [HR]
  · iapply (cred_dues (F := F) rsR c); iexact HR
  iapply (cred_dues (F := F) agR c); iexact HA

end Cert.KernelIdeal.Ring
-- ==== Proof.KernelIdeal.Sound.lean ====
/-
# The body

The kernel's body on one device, from the entry barrier to the closing one: its own product, seven
steps of the reduce-scatter and seven of the all-gather.
-/
module

public import proofs.«01_k».proof.Proof.KernelIdeal.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (A : Dev nD → Vec F S2048x1024 .f32) (B : Dev nD → Vec F S1024x2048 .f32) (K : Dev nD × Cell → ℕ) (c : Dev nD)

set_option maxHeartbeats 16000000 in
set_option maxRecDepth 65536 in
/-- The body runs from the staged operands to the result. -/
theorem sound_body (Q : PUnit → sProp 𝕄) :
    iprop(ghost A B K c ∗ buf c cc0_stg0_0 (A c) ∗ buf c cc0_stg1_0 (B c) ∗ (∃ f, buf c cc0_stg2_0 f) ∗ scratch c
        ∗ (∃ W, owes (c : Thread nD τ) (O₀ c) W) ∗ (bodyEnd A B c -∗ Q ⟨⟩))
      ⊢ WP c (cc0_body aM (Memref.isWhole_whole _) bM (Memref.isWhole_whole _) oM (Memref.isWhole_whole _)
          rM (Memref.isWhole_whole _) cc0_scratch1 cc0_scratch2 cc0_scratch3 cc0_scratch4 cc0_scoped0) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold ghost barTok
  iintro ⟨⟨#Hr, ⟨HtP, HtN, HpB, HcB⟩, ⟨HtP', HtN', HpF, HcF⟩, HrsT, HagT⟩, Ha, Hb, ⟨%f, Ho⟩, Hscr, HO, Hk⟩
  -- the barrier, which hands the landing slots to the device before and brings the next device's
  iapply (wp_signal_bar A B K c bar rfl rfl (Fin.ext (k0_dev1_eq c)) true (Finset.mem_univ _) (rsO c 0 + due (nxt c) bar) (e := prv c) rfl rfl)
  isplitr; · iexact Hr
  isplitl [HO]; · iexact HO
  isplitl [HtP]; · iexact HtP
  isplitl [Hscr]
  · iapply (show scratch c ⊢ pay A B (prv c) bar true from by
      show _ ⊢ slots (nxt (prv c)); rw [nxt_prv]; unfold scratch; exact slots_split c)
    iexact Hscr
  iintro HO
  iapply (wp_signal_bar A B K c bar rfl rfl (Fin.ext (k0_dev2_eq c)) false (Finset.mem_univ _) (rsO c 0) (e := nxt c) rfl rfl)
  isplitr; · iexact Hr
  isplitl [HO]; · iexact HO
  isplitl [HtN]; · iexact HtN
  isplitr
  · iapply (show (iprop(emp) : sProp 𝕄) ⊢ pay A B (nxt c) bar false from .rfl); iempintro
  iintro HO
  iapply (wp_wait_round A B K c bar (fun R => wpE_semWait_eq 𝒱₀ (c : Thread nD τ) none Set.univ R) (O := rsO c 0) (above_rsO c 0 (by decide) (by decide)))
  isplitr; · iexact Hr
  isplitl [HcB]; · iexact HcB
  isplitl [HO]; · iexact HO
  isplitl [HpB]; · iexact HpB
  iintro ⟨Hpay, HzB, HO⟩
  ihave Hpay := (Entails.of_eq (rest_bar A B c)) $$ Hpay
  icases Hpay with ⟨-, Hslots⟩
  -- its own product
  iapply (wp_load_a c (A c))
  isplitl [Ha]; · iexact Ha
  iintro Ha
  iapply (wp_load_b c (B c))
  isplitl [Hb]; · iexact Hb
  iintro Hb
  iapply (wp_load_o c f)
  isplitl [Ho]; · iexact Ho
  iintro Ho
  iapply (wp_store_o c f (k0_pay1 (A c) (B c)))
  isplitl [Ho]; · iexact Ho
  iintro Ho
  ihave Hst := (rs_start A B c) $$ [HrsT Hslots HO Ho]
  · isplitl [HrsT]; · iexact HrsT
    isplitl [Hslots]; · iexact Hslots
    isplitl [HO]; · iexact HO
    iexact Ho
  -- the reduce-scatter
  iapply (rs_step A B K c 0 (chunkM_of (off_send c 0) _) rfl (chunk_credit _ _) (slot_amount 0) (Fin.ext (k0_dev3_eq c)) rfl rfl rfl rfl (off_add c 0) rfl add_landed)
  isplitr; · iexact Hr
  isplitl [Hst]; · iexact Hst
  iintro Hst
  iapply (rs_step A B K c 1 (chunkM_of (off_send c 1) _) rfl (chunk_credit _ _) (slot_amount 1) (Fin.ext (k0_dev4_eq c)) rfl rfl rfl rfl (off_add c 1) rfl add_landed)
  isplitr; · iexact Hr
  isplitl [Hst]; · iexact Hst
  iintro Hst
  iapply (rs_step A B K c 2 (chunkM_of (off_send c 2) _) rfl (chunk_credit _ _) (slot_amount 2) (Fin.ext (k0_dev5_eq c)) rfl rfl rfl rfl (off_add c 2) rfl add_landed)
  isplitr; · iexact Hr
  isplitl [Hst]; · iexact Hst
  iintro Hst
  iapply (rs_step A B K c 3 (chunkM_of (off_send c 3) _) rfl (chunk_credit _ _) (slot_amount 3) (Fin.ext (k0_dev6_eq c)) rfl rfl rfl rfl (off_add c 3) rfl add_landed)
  isplitr; · iexact Hr
  isplitl [Hst]; · iexact Hst
  iintro Hst
  iapply (rs_step A B K c 4 (chunkM_of (off_send c 4) _) rfl (chunk_credit _ _) (slot_amount 4) (Fin.ext (k0_dev7_eq c)) rfl rfl rfl rfl (off_add c 4) rfl add_landed)
  isplitr; · iexact Hr
  isplitl [Hst]; · iexact Hst
  iintro Hst
  iapply (rs_step A B K c 5 (chunkM_of (off_send c 5) _) rfl (chunk_credit _ _) (slot_amount 5) (Fin.ext (k0_dev8_eq c)) rfl rfl rfl rfl (off_add c 5) rfl add_landed)
  isplitr; · iexact Hr
  isplitl [Hst]; · iexact Hst
  iintro Hst
  iapply (rs_step A B K c 6 (chunkM_of (off_send c 6) _) rfl (chunk_credit _ _) (slot_amount 6) (Fin.ext (k0_dev9_eq c)) rfl rfl rfl rfl (off_add c 6) rfl add_landed)
  isplitr; · iexact Hr
  isplitl [Hst]; · iexact Hst
  iintro Hst
  ihave H := (rs_end A B c) $$ [Hst HagT]
  · isplitl [Hst]; · iexact Hst
    iexact HagT
  icases H with ⟨HzR, Hslots, Hst⟩
  -- the all-gather
  iapply (ag_step A B K c 0 (chunkM_of (off_gather c 0) _) (chunkM_of (off_gather c 0) _) (chunk_credit _ _) (chunk_credit _ _) (Fin.ext (k0_dev10_eq c)) rfl rfl rfl rfl)
  isplitr; · iexact Hr
  isplitl [Hst]; · iexact Hst
  iintro Hst
  iapply (ag_step A B K c 1 (chunkM_of (off_gather c 1) _) (chunkM_of (off_gather c 1) _) (chunk_credit _ _) (chunk_credit _ _) (Fin.ext (k0_dev11_eq c)) rfl rfl rfl rfl)
  isplitr; · iexact Hr
  isplitl [Hst]; · iexact Hst
  iintro Hst
  iapply (ag_step A B K c 2 (chunkM_of (off_gather c 2) _) (chunkM_of (off_gather c 2) _) (chunk_credit _ _) (chunk_credit _ _) (Fin.ext (k0_dev12_eq c)) rfl rfl rfl rfl)
  isplitr; · iexact Hr
  isplitl [Hst]; · iexact Hst
  iintro Hst
  iapply (ag_step A B K c 3 (chunkM_of (off_gather c 3) _) (chunkM_of (off_gather c 3) _) (chunk_credit _ _) (chunk_credit _ _) (Fin.ext (k0_dev13_eq c)) rfl rfl rfl rfl)
  isplitr; · iexact Hr
  isplitl [Hst]; · iexact Hst
  iintro Hst
  iapply (ag_step A B K c 4 (chunkM_of (off_gather c 4) _) (chunkM_of (off_gather c 4) _) (chunk_credit _ _) (chunk_credit _ _) (Fin.ext (k0_dev14_eq c)) rfl rfl rfl rfl)
  isplitr; · iexact Hr
  isplitl [Hst]; · iexact Hst
  iintro Hst
  iapply (ag_step A B K c 5 (chunkM_of (off_gather c 5) _) (chunkM_of (off_gather c 5) _) (chunk_credit _ _) (chunk_credit _ _) (Fin.ext (k0_dev15_eq c)) rfl rfl rfl rfl)
  isplitr; · iexact Hr
  isplitl [Hst]; · iexact Hst
  iintro Hst
  iapply (ag_step A B K c 6 (chunkM_of (off_gather c 6) _) (chunkM_of (off_gather c 6) _) (chunk_credit _ _) (chunk_credit _ _) (Fin.ext (k0_dev16_eq c)) rfl rfl rfl rfl)
  isplitr; · iexact Hr
  isplitl [Hst]; · iexact Hst
  iintro Hst
  ihave H := (ag_end A B c) $$ [Hst]
  · iexact Hst
  icases H with ⟨HzG, Ho, HO⟩
  -- the closing barrier
  unfold finO
  iapply (wp_signal_bar A B K c fin rfl rfl (Fin.ext (k0_dev17_eq c)) true (Finset.mem_univ _) (due (nxt c) fin) (e := prv c) rfl rfl)
  isplitr; · iexact Hr
  isplitl [HO]; · iexact HO
  isplitl [HtP']; · iexact HtP'
  isplitr
  · iapply (show (iprop(emp) : sProp 𝕄) ⊢ pay A B (prv c) fin true from .rfl); iempintro
  iintro HO
  iapply (wp_signal_bar A B K c fin rfl rfl (Fin.ext (k0_dev18_eq c)) false (Finset.mem_univ _) 0 (e := nxt c) (zero_add _).symm rfl)
  isplitr; · iexact Hr
  isplitl [HO]; · iexact HO
  isplitl [HtN']; · iexact HtN'
  isplitr
  · iapply (show (iprop(emp) : sProp 𝕄) ⊢ pay A B (nxt c) fin false from .rfl); iempintro
  iintro HO
  iapply (wp_wait_round A B K c fin (fun R => wpE_semWait_eq 𝒱₀ (c : Thread nD τ) none Set.univ R) (O := 0) (.zero _))
  isplitr; · iexact Hr
  isplitl [HcF]; · iexact HcF
  isplitl [HO]; · iexact HO
  isplitl [HpF]; · iexact HpF
  iintro ⟨-, HzF, HO⟩
  iapply (wp_done A B c Q)
  isplitl [Ha]; · iexact Ha
  isplitl [Hb]; · iexact Hb
  isplitl [Ho]; · iexact Ho
  isplitl [Hslots]; · iexact Hslots
  isplitl [HzB]; · iexact HzB
  isplitl [HzF]; · iexact HzF
  isplitl [HzR]; · iexact HzR
  isplitl [HzG]; · iexact HzG
  isplitl [HO]; · iexact HO
  iexact Hk

end Body

end Cert.KernelIdeal.Ring
-- ==== Proof.KernelIdeal.Run.lean ====
/-
# The run

Every weakly fair execution of the program on the eight devices terminates, with each device's
result buffer at the sum that the ring computes, the operands unchanged and all semaphores at zero.
-/
module

public import proofs.«01_k».proof.Proof.Gen.KernelIdeal.Points
public import proofs.«01_k».proof.Proof.KernelIdeal.Launch
public import Idealize.ShloMosaic.Lib.Pipeline.CollectiveSegs
public import proofs.«01_k».proof.Proof.KernelIdeal.Sound

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at the start. -/
abbrev s₀ : MemSt nD τ sig (Elt F) := ⟨m, fun _ => 0, ρ⟩

/-! ## What the pipeline moves -/

/-- Device `c`'s block of the left operand, as it is staged, -/
def argA (c : Dev nD) : Vec F S2048x1024 .f32 := (win0_0.blk (0 : Fin 1)).view.read (Elt F) ((s₀ m ρ).mem ((c : Thread nD τ).loc main_arg0))
/-- and its block of the right one. -/
def argB (c : Dev nD) : Vec F S1024x2048 .f32 := (win0_1.blk (0 : Fin 1)).view.read (Elt F) ((s₀ m ρ).mem ((c : Thread nD τ).loc main_arg1))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from, apart from its buffers. -/
def start (c : Dev nD) : sProp 𝕄 := iprop(∃ K, ghost (argA m ρ) (argB m ρ) K c)

/-- The one point's data: the staged contents, and what is held before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argA m ρ c
    | ⟨1, _⟩ => argB m ρ c
    | ⟨2, _⟩ => out (argA m ρ) (argB m ρ)
  Φ t := match t with
    | ⟨0, _⟩ => iprop(start m ρ c ∗ scratch c)
    | ⟨_ + 1, _⟩ => iprop(scratch c ∗ semVal (kcell (c, bar)) 0 ∗ zeros c)
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The buffer `b` of device `c`, known to hold `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_a (c : Dev nD) (d : _) : (dats m ρ 0 c).before (0 : Fin 3) t₀ d = argA m ρ c := by
  unfold Dat.before; rw [if_pos (fetch0_0 t₀)]; rfl
theorem before_b (c : Dev nD) (d : _) : (dats m ρ 0 c).before (1 : Fin 3) t₀ d = argB m ρ c := by
  unfold Dat.before; rw [if_pos (fetch0_1 t₀)]; rfl

set_option maxRecDepth 4000 in
/-- What the body is given, -/
def bodyPre (c : Dev nD) : sProp 𝕄 :=
  iprop((start m ρ c ∗ scratch c) ∗ (dats m ρ 0 c).owesAt () t₀.castSucc
    ∗ (∃ d, held c cc0_stg0_0 ((dats m ρ 0 c).before (0 : Fin 3) t₀ d))
    ∗ (∃ d, held c cc0_stg1_0 ((dats m ρ 0 c).before (1 : Fin 3) t₀ d))
    ∗ (∃ d, held c cc0_stg2_0 ((dats m ρ 0 c).before (2 : Fin 3) t₀ d)))
set_option maxRecDepth 4000 in
/-- and what it must leave. -/
def bodyPost (c : Dev nD) : sProp 𝕄 :=
  iprop((scratch c ∗ semVal (kcell (c, bar)) 0 ∗ zeros c) ∗ (dats m ρ 0 c).owesAt () t₀.succ
    ∗ held c cc0_stg0_0 (argA m ρ c) ∗ held c cc0_stg1_0 (argB m ρ c) ∗ held c cc0_stg2_0 (out (argA m ρ) (argB m ρ)))

set_option maxRecDepth 65536 in
/-- The body does what the pipeline asks of it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0_body aM (Memref.isWhole_whole _) bM (Memref.isWhole_whole _) oM (Memref.isWhole_whole _)
          rM (Memref.isWhole_whole _) cc0_scratch1 cc0_scratch2 cc0_scratch3 cc0_scratch4 cc0_scoped0) (fun _ => bodyPost m ρ c)
  unfold bodyPre start
  iintro ⟨⟨⟨%K, Hg⟩, Hs⟩, HO, ⟨%d0, %f0, %h0, Ha⟩, ⟨%d1, %f1, %h1, Hb⟩, ⟨%d2, %f2, %h2, Ho⟩⟩
  rw [before_a] at h0
  rw [before_b] at h1
  subst h0 h1
  iapply (sound_body (argA m ρ) (argB m ρ) K c fun _ => bodyPost m ρ c)
  isplitl [Hg]; · iexact Hg
  isplitl [Ha]; · iexact Ha
  isplitl [Hb]; · iexact Hb
  isplitl [Ho]; · iexists f2; iexact Ho
  isplitl [Hs]; · iexact Hs
  isplitl [HO]
  · unfold Dat.owesAt Pipeline.owesWithin
    icases HO with ⟨%W, -, HO⟩
    iexists W; iexact HO
  unfold bodyEnd bodyPost
  iintro ⟨Ha, Hb, Ho, Hs, HzB, Hz, ⟨%W, HO⟩⟩
  isplitl [Hs HzB Hz]
  · isplitl [Hs]; · iexact Hs
    isplitl [HzB] <;> iassumption
  isplitl [HO]
  · unfold Dat.owesAt Pipeline.owesWithin
    rw [show (dats m ρ 0 c).owed t₀.succ = 0 from rfl]
    iexists W
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ho

/-! ## The launch's side conditions -/

theorem osem_injective : Function.Injective osem := fun k k' h => by
  have h := csem_injective (a₁ := .inr k) (a₂ := .inr k') h
  injection h
/-- The kernel's own semaphores are scoped, distinct, and none of them is a staging copy's. -/
theorem ownSemFacts : Pipeline.OwnSemFacts cfg0.spec osem where
  isScoped := by decide
  inj := osem_injective
  disj := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argA m ρ) (argB m ρ) c)
      ⊢ |={Set.univ}=> iprop(start m ρ c ∗ emp) := by
  unfold G' known
  iintro ⟨-, Hlev, Hcr, -, ⟨%K, ⟨HI, HR⟩, Hsh⟩⟩
  ihave Hc := (creds (F := F) c) $$ Hcr
  imodintro
  unfold start
  isplitl
  · iexists K
    iapply (ghost_intro (argA m ρ) (argB m ρ) K c)
    isplitl [HI HR Hlev]
    · unfold records
      isplitl [HI]; · iexact HI
      isplitl [HR]; · iexact HR
      iexact Hlev
    isplitl [Hsh] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ semVal (kcell (c, bar)) 0 ∗ zeros c) from rfl, scopedRest0_eq]
  iintro ⟨Hr, Hz⟩
  ihave Hz := (zeros_eq (F := F) c) $$ Hz
  ihave Hz := (Entails.of_eq (sems0_eq (F := F) c).symm) $$ Hz
  icases Hz with ⟨H1, H2⟩
  isplitl [H1]; · iexact H1
  isplitl [H2]; · iexact H2
  unfold scratch; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The array of window `w` on device `c` at the end. -/
def finalA (c : Dev nD) (w : Fin cfg0.W) : Buf (Elt F) ((cfg0.win w).arr.view.loc (c : Thread nD τ)) := (dats m ρ 0 c).arrAt w cfg0.N

/-- Every array at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, the program terminates on the eight devices with every array at its final
    contents and all semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := block_pos0)
    (harr := arr_whole0) (hstage := stage_whole0) (hshare := share_eq m ρ) (hdistinct := winFacts0.arr_inj)
    (O₀ := O₀) (howed₀ := fun _ => rfl) (howedN := fun _ => rfl) (L := L) (lv := lv) (hL := L_of_ne) (hwaits := waits m ρ)
    (G := G (argA m ρ) (argB m ρ)) (G' := G' (argA m ρ) (argB m ρ)) (u₀ := u₀)
    (hu₀ := by
      unfold u₀
      iintro Hu
      ihave H := (ownU_pair _ _) $$ Hu
      icases H with ⟨HP, HX⟩
      imod (fund_ring (argA m ρ) (argB m ρ)) $$ HX with HG
      imodintro
      isplitl [HP] <;> iassumption)
    (hglob := glob (argA m ρ) (argB m ρ)) (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they began, -/
theorem finalA_a (c : Dev nD) : finalA m ρ c (0 : Fin 3) = m ((c : Thread nD τ).loc main_arg0) :=
  (dats (F := F) m ρ 0 c).arrAt_in (0 : Fin 3) rfl _
theorem finalA_b (c : Dev nD) : finalA m ρ c (1 : Fin 3) = m ((c : Thread nD τ).loc main_arg1) :=
  (dats (F := F) m ρ 0 c).arrAt_in (1 : Fin 3) rfl _

/-- and the result array ends at the sum. -/
theorem finalA_out (c : Dev nD) : finalA m ρ c (2 : Fin 3) = out (argA m ρ) (argB m ρ) := by
  unfold finalA
  rw [cfg0_N]
  show (dats m ρ 0 c).arrAt (2 : Fin 3) (0 + 1) = _
  unfold Dat.arrAt
  rw [dif_pos (show 0 < cfg0.N by rw [cfg0_N]; exact Nat.one_pos)]
  refine (if_pos (flush0_2 _)).trans ?_
  exact Memref.write_access_unit_zero_univ (Elt F) main_v1 (funext fun a => by fin_cases a <;> rfl) _ _ _

/-- What is staged is the whole operand. -/
theorem argA_eq (c : Dev nD) : argA m ρ c = m ((c : Thread nD τ).loc main_arg0) :=
  Memref.read_access_unit_zero (Elt F) main_arg0 (funext fun a => by fin_cases a <;> rfl) _ _
theorem argB_eq (c : Dev nD) : argB m ρ c = m ((c : Thread nD τ).loc main_arg1) :=
  Memref.read_access_unit_zero (Elt F) main_arg1 (funext fun a => by fin_cases a <;> rfl) _ _

/-- The run, of the result: it ends at the sum, on every device, and the operands end as they began. -/
theorem run_value : θ_run defs (onTc (τ := τ) (main (F := F))) (s₀ m ρ) (fun r => ∀ c : Dev nD,
    r.2.mem ((c : Thread nD τ).loc main_v1)
        = out (fun c => m ((c : Thread nD τ).loc main_arg0)) (fun c => m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h.1 c (2 : Fin 3)).trans ((finalA_out m ρ c).trans
      (congrArg₂ out (funext fun c => argA_eq m ρ c) (funext fun c => argB_eq m ρ c))),
    (h.1 c (0 : Fin 3)).trans (finalA_a m ρ c), (h.1 c (1 : Fin 3)).trans (finalA_b m ρ c)⟩) (run_main m ρ)

/-- The run, of the rest: the operands end as they began, and every semaphore at zero. -/
theorem run_frame : θ_run defs (onTc (τ := τ) (main (F := F))) (s₀ m ρ) (fun r => (∀ c : Dev nD,
    r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c =>
    ⟨(h.1 c (0 : Fin 3)).trans (finalA_a m ρ c), (h.1 c (1 : Fin 3)).trans (finalA_b m ρ c)⟩, h.2⟩) (run_main m ρ)

end Cert.KernelIdeal.Ring
-- ==== Proof.KernelIdeal.Value.lean ====
/-
# The value

Over the extended reals the sum that travels round the ring is the whole product: each finished chunk
is the sum of the eight devices' own products on that chunk, and eight sums over 1024 contracted
positions are one sum over 8192.
-/
module

public import proofs.«01_k».proof.Proof.KernelIdeal.Buffers
public import proofs.«01_k».proof.Proof.Gen.ReferenceIdeal
public import Idealize.ShloMosaic.Lib.MatmulPlain
public import Idealize.ShloMosaic.Lib.Layout

@[expose] public section

noncomputable section

namespace Cert.KernelIdeal.Ring

open Cert.KernelIdeal Cert.KernelIdeal.Gen
open Idealize.ShloMosaic Idealize.ShloMosaic.ValueIdx
open scoped BigOperators

/-! ## One device's product -/

/-- A device's own product at row `r` and column `l`: the sum over its 1024 contracted positions. -/
theorem own_apply (a : Vec Ideal S2048x1024 .f32) (b : Vec Ideal S1024x2048 .f32) (r l : Fin 2048) :
    k0_pay1 a b (ix2 r l) = ∑ x : Fin 1024, (a (ix2 r x) * b (ix2 x l) : EReal) := by
  have ha : shapeCast S2048x1024 a shapeCasts_S2048x1024_S2048x1024 = a :=
    funext fun i => congrArg a (Shape.reshapeEquiv_self _ i)
  have hb : shapeCast S1024x2048 b shapeCasts_S1024x2048_S1024x2048 = b :=
    funext fun i => congrArg b (Shape.reshapeEquiv_self _ i)
  unfold k0_pay1
  rw [ha, hb]
  refine (Ideal.matmul_plain_apply (M := 2048) (K := 1024) (N := 2048) none a b _ r l).trans ?_
  rw [show (constant S2048x2048 .f32 0x00000000#32 : FVec Ideal S2048x2048 .f32) (ix2 r l) = 0 from by
    simp [constant, Scalar.ofBits, Ideal.ofBits, Ideal.ieee], zero_add]

/-! ## Round the ring -/

section Ring
variable (A : Dev nD → Vec Ideal S2048x1024 .f32) (B : Dev nD → Vec Ideal S1024x2048 .f32)

theorem ck_back (c : Dev nD) : ck (prv c) 7 = c := by revert c; decide
theorem ck_before (c : Dev nD) (s : ℕ) (h : s ≤ 7) : ck (prv c) s = ck c (s + 1) :=
  Fin.ext (by have h' : c.val < 8 := c.isLt; simp only [ck, prv]; omega)

/-- The running sum after `s` hops is the sum, over the devices it has visited, of their parts of its chunk. -/
theorem acc_sum (j : S256x2048.Idx) : ∀ (s : ℕ), s ≤ 7 → ∀ c : Dev nD,
    acc A B s c j = ∑ i ∈ Finset.range (s + 1), (part A B (ck c i) (ck c s) j : EReal)
  | 0, _, c => by
    rw [Finset.sum_range_one, ck_zero]
    show part A B c (ck c 0) j = _
    rw [ck_zero]
  | s + 1, h, c => by
    rw [Finset.sum_range_succ', add_comm (Finset.sum _ _)]
    show (part A B c (ck c (s + 1)) j + acc A B s (prv c) j : EReal) = _
    rw [acc_sum j s (by omega) (prv c), ck_before c s (by omega),
      ck_zero]
    refine congrArg _ (Finset.sum_congr rfl fun i hi => ?_)
    rw [ck_before c i (by have := Finset.mem_range.mp hi; omega)]

/-- A finished chunk is the sum of all devices' parts of it. -/
theorem total_sum (k : Dev nD) (j : S256x2048.Idx) : total A B k j = ∑ c : Dev nD, (part A B c k j : EReal) := by
  unfold total
  rw [acc_sum A B j 7 le_rfl, Finset.sum_range, ck_back]
  exact Equiv.sum_comp (ckEquiv (prv k)) fun c => (part A B c k j : EReal)

/-- So the result is the sum of all devices' own products. -/
theorem out_sum (i : S2048x2048.Idx) : out A B i = ∑ c : Dev nD, (k0_pay1 (A c) (B c) i : EReal) := by
  obtain ⟨k, -, hk⟩ := Finset.mem_biUnion.mp (chunk_cover ▸ Finset.mem_univ i)
  rw [← Rect.map_emb_univ] at hk
  obtain ⟨j, -, rfl⟩ := Finset.mem_map.mp hk
  rw [out_emb, total_sum]
  rfl

end Ring

/-! ## The whole product -/

/-- The product of the whole arrays at row `r` and column `l`: the sum over all 8192 contracted positions. -/
theorem product_apply (X : Vec Ideal Cert.ReferenceIdeal.S2048x8192 .f32) (Y : Vec Ideal Cert.ReferenceIdeal.S8192x2048 .f32)
    (r l : Fin 2048) :
    (Host.dotGeneral (F := Ideal) (φ₁ := .f32) (φ₂ := .f32)
        Cert.ReferenceIdeal.dot_S2048x8192_S8192x2048_S2048x2048_1_0_0_1_n_n none X Y : FVec Ideal S2048x2048 .f32) (ix2 r l)
      = ∑ x : Fin 8192, (X (ix2 r x) * Y (ix2 x l) : EReal) := by
  refine (Ideal.matmul_plain_apply (M := 2048) (K := 8192) (N := 2048) (φ₁ := .f32) (φ₂ := .f32) none X Y (fun _ => (0 : EReal)) r l).trans ?_
  exact zero_add _

/-- When the devices hold the eight column blocks of `X` and the eight row blocks of `Y`, the result is the
    reference's product of `X` and `Y`. -/
theorem out_eq_product (X : Vec Ideal Cert.ReferenceIdeal.S2048x8192 .f32) (Y : Vec Ideal Cert.ReferenceIdeal.S8192x2048 .f32)
    (A : Dev nD → Vec Ideal S2048x1024 .f32) (B : Dev nD → Vec Ideal S1024x2048 .f32)
    (hA : ∀ c, A c = Layout.block ⟨2, ![2048, 1024]⟩ ⟨2, ![2048, 8192]⟩ 1 8 c X)
    (hB : ∀ c, B c = Layout.block ⟨2, ![1024, 2048]⟩ ⟨2, ![8192, 2048]⟩ 0 8 c Y) :
    out A B = Host.dotGeneral (F := Ideal) (φ₁ := .f32) (φ₂ := .f32) Cert.ReferenceIdeal.dot_S2048x8192_S8192x2048_S2048x2048_1_0_0_1_n_n none X Y := by
  funext i
  obtain ⟨r, l, rfl⟩ : ∃ r l : Fin 2048, i = ix2 r l := ⟨i 0, i 1, by funext a; fin_cases a <;> rfl⟩
  rw [out_sum]
  refine Eq.trans ?_ (product_apply X Y r l).symm
  rw [← Equiv.sum_comp (finProdFinEquiv : Fin 8 × Fin 1024 ≃ Fin 8192), Fintype.sum_prod_type]
  refine Finset.sum_congr rfl fun c _ => ?_
  rw [own_apply, hA, hB]
  refine Finset.sum_congr rfl fun x _ => ?_
  rw [Layout.block_apply, Layout.block_apply]
  congr 2
  · funext a; apply Fin.ext
    match a with
    | ⟨0, _⟩ => rfl
    | ⟨1, _⟩ => show c.val * 1024 + x.val = x.val + 1024 * c.val; omega
  · funext a; apply Fin.ext
    match a with
    | ⟨0, _⟩ => show c.val * 1024 + x.val = x.val + 1024 * c.val; omega
    | ⟨1, _⟩ => rfl

end Cert.KernelIdeal.Ring
-- ==== Proof.lean ====
module

public import proofs.«01_k».proof.Defs
public import proofs.«01_k».proof.Proof.Kernel.Run
public import proofs.«01_k».proof.Proof.KernelIdeal.Run
public import proofs.«01_k».proof.Proof.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel, with its floats as the machine has them, runs and leaves its arguments and semaphores as they were. -/
theorem frame_kernel : Cert.quiescent_Kernel (hKernel := Cert.Kernel.Gen.facts) :=
  fun m g _ => Cert.Kernel.Ring.run_frame m g

/-- So does it over the extended reals, -/
theorem frame_ideal : Cert.quiescent_KernelIdeal (hKernelIdeal := Cert.KernelIdeal.Gen.facts) :=
  fun m g _ => Cert.KernelIdeal.Ring.run_frame m g

/-- and so does the reference. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems rfl r.2⟩)
    (Cert.ReferenceIdeal.Value.run m g)

/-- Over the extended reals, every device's result is the reference's product of the whole arrays. -/
theorem value : Cert.algebraic_KernelIdeal_ReferenceIdeal (hKernelIdeal := Cert.KernelIdeal.Gen.facts)
    (hReferenceIdeal := Cert.ReferenceIdeal.Gen.facts) := by
  intro m g m' g' _ hm
  refine ⟨_, ?_, (θ_run Cert.ReferenceIdeal.defs _ _).mono (fun r h => h 0) (Cert.ReferenceIdeal.Value.run m' g')⟩
  refine (θ_run Cert.KernelIdeal.defs _ _).mono (fun r h c => ⟨(h c).1.trans ?_, (h c).2⟩) (Cert.KernelIdeal.Ring.run_value m g)
  exact Cert.KernelIdeal.Ring.out_eq_product _ _ _ _ (fun c => (hm c).1) (fun c => (hm c).2)

theorem claim : Cert.Claim := ⟨Cert.Kernel.Gen.facts, Cert.KernelIdeal.Gen.facts, Cert.ReferenceIdeal.Gen.facts,
  frame_kernel, frame_ideal, frame_reference, trivial, value⟩

end Cert.Proof

end
